-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_router_KernelIdeal [hPre_finite_router_KernelIdeal : Cert.Pre_finite_router_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_router_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_router_ReferenceIdeal [hPre_finite_router_ReferenceIdeal : Cert.Pre_finite_router_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_router_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_router_KernelIdeal [hKernelIdeal : Cert.KernelIdeal.Facts] [hPre_finite_router_KernelIdeal : Cert.Pre_finite_router_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_router_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_router_ReferenceIdeal [hReferenceIdeal : Cert.ReferenceIdeal.Facts] [hPre_finite_router_ReferenceIdeal : Cert.Pre_finite_router_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_router_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_router_KernelIdeal [hKernelIdeal : Cert.KernelIdeal.Facts] [hReferenceIdeal : Cert.ReferenceIdeal.Facts] [hPre_finite_router_KernelIdeal : Cert.Pre_finite_router_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_router_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![8, 1024, 1024]⟩ ⟨3, ![64, 1024, 1024]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v76) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_router_KernelIdeal : Cert.Pre_finite_router_KernelIdeal.Facts) (hPre_finite_router_ReferenceIdeal : Cert.Pre_finite_router_ReferenceIdeal.Facts),
    quiescent_Kernel (hKernel := hKernel)
    ∧ quiescent_KernelIdeal (hKernelIdeal := hKernelIdeal)
    ∧ quiescent_KernelIdeal_pre_finite_router_KernelIdeal (hKernelIdeal := hKernelIdeal) (hPre_finite_router_KernelIdeal := hPre_finite_router_KernelIdeal)
    ∧ quiescent_ReferenceIdeal (hReferenceIdeal := hReferenceIdeal)
    ∧ quiescent_ReferenceIdeal_pre_finite_router_ReferenceIdeal (hReferenceIdeal := hReferenceIdeal) (hPre_finite_router_ReferenceIdeal := hPre_finite_router_ReferenceIdeal)
    ∧ preserves_Kernel_KernelIdeal
    ∧ algebraic_KernelIdeal_ReferenceIdeal_pre_finite_router_KernelIdeal (hKernelIdeal := hKernelIdeal) (hReferenceIdeal := hReferenceIdeal) (hPre_finite_router_KernelIdeal := hPre_finite_router_KernelIdeal)
-- ==== Pre_finite_router_KernelIdeal.lean ====
abbrev S2048x1024 : Shape := ⟨2, ![2048, 1024]⟩
abbrev S1024x64 : Shape := ⟨2, ![1024, 64]⟩
abbrev S2048x2 : Shape := ⟨2, ![2048, 2]⟩
abbrev S8x1024x1024 : Shape := ⟨3, ![8, 1024, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn {F : FTy → Type} [FloatOps F] (main_arg0 : FVec F S2048x1024 .f32) (main_arg1 : FVec F S1024x64 .f32) (main_arg2 : IVec S2048x2 32) (main_arg3 : FVec F S8x1024x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  main_v8
-- ==== Pre_finite_router_ReferenceIdeal.lean ====
abbrev S2048x1024 : Shape := ⟨2, ![2048, 1024]⟩
abbrev S1024x64 : Shape := ⟨2, ![1024, 64]⟩
abbrev S2048x2 : Shape := ⟨2, ![2048, 2]⟩
abbrev S64x1024x1024 : Shape := ⟨3, ![64, 1024, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn {F : FTy → Type} [FloatOps F] (main_arg0 : FVec F S2048x1024 .f32) (main_arg1 : FVec F S1024x64 .f32) (main_arg2 : IVec S2048x2 32) (main_arg3 : FVec F S64x1024x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  main_v8
-- ==== Kernel.lean ====
abbrev S2048x1024 : Shape := ⟨2, ![2048, 1024]⟩
abbrev S1024x64 : Shape := ⟨2, ![1024, 64]⟩
abbrev S2048x2 : Shape := ⟨2, ![2048, 2]⟩
abbrev S8x1024x1024 : Shape := ⟨3, ![8, 1024, 1024]⟩
abbrev S8x256x1024 : Shape := ⟨3, ![8, 256, 1024]⟩
abbrev S8 : Shape := ⟨1, ![8]⟩
abbrev S_ : Shape := ⟨0, ![]⟩
abbrev S2048x64 : Shape := ⟨2, ![2048, 64]⟩
abbrev S2048 : Shape := ⟨1, ![2048]⟩
abbrev S2048x1 : Shape := ⟨2, ![2048, 1]⟩
abbrev S256x1024 : Shape := ⟨2, ![256, 1024]⟩
abbrev S256x1 : Shape := ⟨2, ![256, 1]⟩
abbrev S1x1024x1024 : Shape := ⟨3, ![1, 1024, 1024]⟩
abbrev S1024x1024 : Shape := ⟨2, ![1024, 1024]⟩
abbrev S1x256x1024 : Shape := ⟨3, ![1, 256, 1024]⟩
abbrev S1 : Shape := ⟨1, ![1]⟩

abbrev nBuf : Space → Nat
  | .hbm => 5
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S1024x64, .f32⟩
  | .hbm, ⟨2, _⟩ => ⟨S2048x2, .i32⟩
  | .hbm, ⟨3, _⟩ => ⟨S8x1024x1024, .f32⟩
  | .hbm, ⟨4, _⟩ => ⟨S2048x1024, .f32⟩
  | .local _ .vmem, ⟨0, _⟩ => ⟨S2048x1024, .f32⟩
  | .local _ .vmem, ⟨1, _⟩ => ⟨S1024x64, .f32⟩
  | .local _ .vmem, ⟨2, _⟩ => ⟨S2048x2, .i32⟩
  | .local _ .vmem, ⟨3, _⟩ => ⟨S8x1024x1024, .f32⟩
  | .local _ .vmem, ⟨4, _⟩ => ⟨S2048x1024, .f32⟩
  | .local _ .vmem, ⟨5, _⟩ => ⟨S2048x2, .f32⟩
  | .local _ .vmem, ⟨6, _⟩ => ⟨S8x256x1024, .bf16⟩
  | .local _ .vmem, ⟨7, _⟩ => ⟨S8x256x1024, .bf16⟩
  | .local _ .vmem, ⟨8, _⟩ => ⟨S8x256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 1 37 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) (c1_i32_79 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v131 : BitVec 32 := Scalar.addi v2 c1_i32_79
  let c8_i32_80 : BitVec 32 := 8#32
  let c0_i32_81 : BitVec 32 := 0#32
  let v132 : BitVec 1 := Scalar.cmpi .eq c8_i32_80 c0_i32_81
  let c1_i32_82 : BitVec 32 := 1#32
  let v133 : BitVec 32 := Scalar.select v132 c1_i32_82 c8_i32_80
  let v134 : BitVec 32 := Scalar.remsi v131 v133
  let c0_i32_84 : BitVec 32 := 0#32
  let v136 : BitVec 1 := Scalar.cmpi .slt v134 c0_i32_84
  let c0_i32_85 : BitVec 32 := 0#32
  let v137 : BitVec 1 := Scalar.cmpi .slt v133 c0_i32_85
  let v138 : BitVec 1 := Scalar.xori v136 v137
  let c0_i32_83 : BitVec 32 := 0#32
  let v135 : BitVec 1 := Scalar.cmpi .ne v134 c0_i32_83
  let v139 : BitVec 1 := Scalar.andi v138 v135
  let v140 : BitVec 32 := Scalar.addi v134 v133
  let v141 : BitVec 32 := Scalar.select v139 v140 v134
  let c256_i32 : BitVec 32 := 256#32
  let v142 : BitVec 32 := Scalar.muli v141 c256_i32
  let v143 : Index := Scalar.indexCast v142
  let c0_86 : Index := 0#32
  ![v143.toNat, 0]
def k0_off2 (d0 : Dev nD) (c1_i32_79 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v131 : BitVec 32 := Scalar.addi v2 c1_i32_79
  let c8_i32_80 : BitVec 32 := 8#32
  let c0_i32_81 : BitVec 32 := 0#32
  let v132 : BitVec 1 := Scalar.cmpi .eq c8_i32_80 c0_i32_81
  let c1_i32_82 : BitVec 32 := 1#32
  let v133 : BitVec 32 := Scalar.select v132 c1_i32_82 c8_i32_80
  let v134 : BitVec 32 := Scalar.remsi v131 v133
  let c0_i32_84 : BitVec 32 := 0#32
  let v136 : BitVec 1 := Scalar.cmpi .slt v134 c0_i32_84
  let c0_i32_85 : BitVec 32 := 0#32
  let v137 : BitVec 1 := Scalar.cmpi .slt v133 c0_i32_85
  let v138 : BitVec 1 := Scalar.xori v136 v137
  let c0_i32_83 : BitVec 32 := 0#32
  let v135 : BitVec 1 := Scalar.cmpi .ne v134 c0_i32_83
  let v139 : BitVec 1 := Scalar.andi v138 v135
  let v140 : BitVec 32 := Scalar.addi v134 v133
  let v141 : BitVec 32 := Scalar.select v139 v140 v134
  let c256_i32 : BitVec 32 := 256#32
  let v142 : BitVec 32 := Scalar.muli v141 c256_i32
  let v146 : Index := Scalar.indexCast v142
  let c0_87 : Index := 0#32
  ![v146.toNat, 0]
def k0_off3 (d0 : Dev nD) (c1_i32_79 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v131 : BitVec 32 := Scalar.addi v2 c1_i32_79
  let c8_i32_80 : BitVec 32 := 8#32
  let c0_i32_81 : BitVec 32 := 0#32
  let v132 : BitVec 1 := Scalar.cmpi .eq c8_i32_80 c0_i32_81
  let c1_i32_82 : BitVec 32 := 1#32
  let v133 : BitVec 32 := Scalar.select v132 c1_i32_82 c8_i32_80
  let v134 : BitVec 32 := Scalar.remsi v131 v133
  let c0_i32_84 : BitVec 32 := 0#32
  let v136 : BitVec 1 := Scalar.cmpi .slt v134 c0_i32_84
  let c0_i32_85 : BitVec 32 := 0#32
  let v137 : BitVec 1 := Scalar.cmpi .slt v133 c0_i32_85
  let v138 : BitVec 1 := Scalar.xori v136 v137
  let c0_i32_83 : BitVec 32 := 0#32
  let v135 : BitVec 1 := Scalar.cmpi .ne v134 c0_i32_83
  let v139 : BitVec 1 := Scalar.andi v138 v135
  let v140 : BitVec 32 := Scalar.addi v134 v133
  let v141 : BitVec 32 := Scalar.select v139 v140 v134
  let c256_i32 : BitVec 32 := 256#32
  let v142 : BitVec 32 := Scalar.muli v141 c256_i32
  let v149 : Index := Scalar.indexCast v142
  let c1_88 : Index := 1#32
  ![v149.toNat, 1]
def k0_off4 (d0 : Dev nD) (c1_i32_79 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v131 : BitVec 32 := Scalar.addi v2 c1_i32_79
  let c8_i32_80 : BitVec 32 := 8#32
  let c0_i32_81 : BitVec 32 := 0#32
  let v132 : BitVec 1 := Scalar.cmpi .eq c8_i32_80 c0_i32_81
  let c1_i32_82 : BitVec 32 := 1#32
  let v133 : BitVec 32 := Scalar.select v132 c1_i32_82 c8_i32_80
  let v134 : BitVec 32 := Scalar.remsi v131 v133
  let c0_i32_84 : BitVec 32 := 0#32
  let v136 : BitVec 1 := Scalar.cmpi .slt v134 c0_i32_84
  let c0_i32_85 : BitVec 32 := 0#32
  let v137 : BitVec 1 := Scalar.cmpi .slt v133 c0_i32_85
  let v138 : BitVec 1 := Scalar.xori v136 v137
  let c0_i32_83 : BitVec 32 := 0#32
  let v135 : BitVec 1 := Scalar.cmpi .ne v134 c0_i32_83
  let v139 : BitVec 1 := Scalar.andi v138 v135
  let v140 : BitVec 32 := Scalar.addi v134 v133
  let v141 : BitVec 32 := Scalar.select v139 v140 v134
  let v303 : Index := Scalar.indexCast v141
  let c0_150 : Index := 0#32
  let c0_151 : Index := 0#32
  ![v303.toNat, 0, 0]
def k0_off5 (d0 : Dev nD) (c1_i32_79 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v131 : BitVec 32 := Scalar.addi v2 c1_i32_79
  let c8_i32_80 : BitVec 32 := 8#32
  let c0_i32_81 : BitVec 32 := 0#32
  let v132 : BitVec 1 := Scalar.cmpi .eq c8_i32_80 c0_i32_81
  let c1_i32_82 : BitVec 32 := 1#32
  let v133 : BitVec 32 := Scalar.select v132 c1_i32_82 c8_i32_80
  let v134 : BitVec 32 := Scalar.remsi v131 v133
  let c0_i32_84 : BitVec 32 := 0#32
  let v136 : BitVec 1 := Scalar.cmpi .slt v134 c0_i32_84
  let c0_i32_85 : BitVec 32 := 0#32
  let v137 : BitVec 1 := Scalar.cmpi .slt v133 c0_i32_85
  let v138 : BitVec 1 := Scalar.xori v136 v137
  let c0_i32_83 : BitVec 32 := 0#32
  let v135 : BitVec 1 := Scalar.cmpi .ne v134 c0_i32_83
  let v139 : BitVec 1 := Scalar.andi v138 v135
  let v140 : BitVec 32 := Scalar.addi v134 v133
  let v141 : BitVec 32 := Scalar.select v139 v140 v134
  ![v141.toNat]
def k0_off6 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off7 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_154 : BitVec 32 := 0#32
  let c0_i32_155 : BitVec 32 := 0#32
  ![v2.toNat, 0, 0]
def k0_off8 (d0 : Dev nD) (c1_i32_79 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v131 : BitVec 32 := Scalar.addi v2 c1_i32_79
  let c8_i32_80 : BitVec 32 := 8#32
  let c0_i32_81 : BitVec 32 := 0#32
  let v132 : BitVec 1 := Scalar.cmpi .eq c8_i32_80 c0_i32_81
  let c1_i32_82 : BitVec 32 := 1#32
  let v133 : BitVec 32 := Scalar.select v132 c1_i32_82 c8_i32_80
  let v134 : BitVec 32 := Scalar.remsi v131 v133
  let c0_i32_84 : BitVec 32 := 0#32
  let v136 : BitVec 1 := Scalar.cmpi .slt v134 c0_i32_84
  let c0_i32_85 : BitVec 32 := 0#32
  let v137 : BitVec 1 := Scalar.cmpi .slt v133 c0_i32_85
  let v138 : BitVec 1 := Scalar.xori v136 v137
  let c0_i32_83 : BitVec 32 := 0#32
  let v135 : BitVec 1 := Scalar.cmpi .ne v134 c0_i32_83
  let v139 : BitVec 1 := Scalar.andi v138 v135
  let v140 : BitVec 32 := Scalar.addi v134 v133
  let v141 : BitVec 32 := Scalar.select v139 v140 v134
  let c0_i32_156 : BitVec 32 := 0#32
  let c0_i32_157 : BitVec 32 := 0#32
  ![v141.toNat, 0, 0]
def k0_dev8 (d0 : Dev nD) : Nat :=
  let c0_i32_153 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_79 : BitVec 32 := 1#32
  let v131 : BitVec 32 := Scalar.addi v2 c1_i32_79
  let c8_i32_80 : BitVec 32 := 8#32
  let c0_i32_81 : BitVec 32 := 0#32
  let v132 : BitVec 1 := Scalar.cmpi .eq c8_i32_80 c0_i32_81
  let c1_i32_82 : BitVec 32 := 1#32
  let v133 : BitVec 32 := Scalar.select v132 c1_i32_82 c8_i32_80
  let v134 : BitVec 32 := Scalar.remsi v131 v133
  let c0_i32_84 : BitVec 32 := 0#32
  let v136 : BitVec 1 := Scalar.cmpi .slt v134 c0_i32_84
  let c0_i32_85 : BitVec 32 := 0#32
  let v137 : BitVec 1 := Scalar.cmpi .slt v133 c0_i32_85
  let v138 : BitVec 1 := Scalar.xori v136 v137
  let c0_i32_83 : BitVec 32 := 0#32
  let v135 : BitVec 1 := Scalar.cmpi .ne v134 c0_i32_83
  let v139 : BitVec 1 := Scalar.andi v138 v135
  let v140 : BitVec 32 := Scalar.addi v134 v133
  let v141 : BitVec 32 := Scalar.select v139 v140 v134
  let c1_i32_152 : BitVec 32 := 1#32
  let v307 : BitVec 32 := Scalar.muli v141 c1_i32_152
  let v308 : BitVec 32 := Scalar.addi c0_i32_153 v307
  v308.toNat
def k0_dev9 (d0 : Dev nD) : Nat :=
  let c0_i32_239 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_158 : BitVec 32 := 2#32
  let v317 : BitVec 32 := Scalar.addi v2 c2_i32_158
  let c8_i32_159 : BitVec 32 := 8#32
  let c0_i32_160 : BitVec 32 := 0#32
  let v318 : BitVec 1 := Scalar.cmpi .eq c8_i32_159 c0_i32_160
  let c1_i32_161 : BitVec 32 := 1#32
  let v319 : BitVec 32 := Scalar.select v318 c1_i32_161 c8_i32_159
  let v320 : BitVec 32 := Scalar.remsi v317 v319
  let c0_i32_163 : BitVec 32 := 0#32
  let v322 : BitVec 1 := Scalar.cmpi .slt v320 c0_i32_163
  let c0_i32_164 : BitVec 32 := 0#32
  let v323 : BitVec 1 := Scalar.cmpi .slt v319 c0_i32_164
  let v324 : BitVec 1 := Scalar.xori v322 v323
  let c0_i32_162 : BitVec 32 := 0#32
  let v321 : BitVec 1 := Scalar.cmpi .ne v320 c0_i32_162
  let v325 : BitVec 1 := Scalar.andi v324 v321
  let v326 : BitVec 32 := Scalar.addi v320 v319
  let v327 : BitVec 32 := Scalar.select v325 v326 v320
  let c1_i32_238 : BitVec 32 := 1#32
  let v493 : BitVec 32 := Scalar.muli v327 c1_i32_238
  let v494 : BitVec 32 := Scalar.addi c0_i32_239 v493
  v494.toNat
def k0_dev10 (d0 : Dev nD) : Nat :=
  let c0_i32_325 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_244 : BitVec 32 := 3#32
  let v503 : BitVec 32 := Scalar.addi v2 c3_i32_244
  let c8_i32_245 : BitVec 32 := 8#32
  let c0_i32_246 : BitVec 32 := 0#32
  let v504 : BitVec 1 := Scalar.cmpi .eq c8_i32_245 c0_i32_246
  let c1_i32_247 : BitVec 32 := 1#32
  let v505 : BitVec 32 := Scalar.select v504 c1_i32_247 c8_i32_245
  let v506 : BitVec 32 := Scalar.remsi v503 v505
  let c0_i32_249 : BitVec 32 := 0#32
  let v508 : BitVec 1 := Scalar.cmpi .slt v506 c0_i32_249
  let c0_i32_250 : BitVec 32 := 0#32
  let v509 : BitVec 1 := Scalar.cmpi .slt v505 c0_i32_250
  let v510 : BitVec 1 := Scalar.xori v508 v509
  let c0_i32_248 : BitVec 32 := 0#32
  let v507 : BitVec 1 := Scalar.cmpi .ne v506 c0_i32_248
  let v511 : BitVec 1 := Scalar.andi v510 v507
  let v512 : BitVec 32 := Scalar.addi v506 v505
  let v513 : BitVec 32 := Scalar.select v511 v512 v506
  let c1_i32_324 : BitVec 32 := 1#32
  let v679 : BitVec 32 := Scalar.muli v513 c1_i32_324
  let v680 : BitVec 32 := Scalar.addi c0_i32_325 v679
  v680.toNat
def k0_dev11 (d0 : Dev nD) : Nat :=
  let c0_i32_411 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_330 : BitVec 32 := 4#32
  let v689 : BitVec 32 := Scalar.addi v2 c4_i32_330
  let c8_i32_331 : BitVec 32 := 8#32
  let c0_i32_332 : BitVec 32 := 0#32
  let v690 : BitVec 1 := Scalar.cmpi .eq c8_i32_331 c0_i32_332
  let c1_i32_333 : BitVec 32 := 1#32
  let v691 : BitVec 32 := Scalar.select v690 c1_i32_333 c8_i32_331
  let v692 : BitVec 32 := Scalar.remsi v689 v691
  let c0_i32_335 : BitVec 32 := 0#32
  let v694 : BitVec 1 := Scalar.cmpi .slt v692 c0_i32_335
  let c0_i32_336 : BitVec 32 := 0#32
  let v695 : BitVec 1 := Scalar.cmpi .slt v691 c0_i32_336
  let v696 : BitVec 1 := Scalar.xori v694 v695
  let c0_i32_334 : BitVec 32 := 0#32
  let v693 : BitVec 1 := Scalar.cmpi .ne v692 c0_i32_334
  let v697 : BitVec 1 := Scalar.andi v696 v693
  let v698 : BitVec 32 := Scalar.addi v692 v691
  let v699 : BitVec 32 := Scalar.select v697 v698 v692
  let c1_i32_410 : BitVec 32 := 1#32
  let v865 : BitVec 32 := Scalar.muli v699 c1_i32_410
  let v866 : BitVec 32 := Scalar.addi c0_i32_411 v865
  v866.toNat
def k0_dev12 (d0 : Dev nD) : Nat :=
  let c0_i32_497 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_416 : BitVec 32 := 5#32
  let v875 : BitVec 32 := Scalar.addi v2 c5_i32_416
  let c8_i32_417 : BitVec 32 := 8#32
  let c0_i32_418 : BitVec 32 := 0#32
  let v876 : BitVec 1 := Scalar.cmpi .eq c8_i32_417 c0_i32_418
  let c1_i32_419 : BitVec 32 := 1#32
  let v877 : BitVec 32 := Scalar.select v876 c1_i32_419 c8_i32_417
  let v878 : BitVec 32 := Scalar.remsi v875 v877
  let c0_i32_421 : BitVec 32 := 0#32
  let v880 : BitVec 1 := Scalar.cmpi .slt v878 c0_i32_421
  let c0_i32_422 : BitVec 32 := 0#32
  let v881 : BitVec 1 := Scalar.cmpi .slt v877 c0_i32_422
  let v882 : BitVec 1 := Scalar.xori v880 v881
  let c0_i32_420 : BitVec 32 := 0#32
  let v879 : BitVec 1 := Scalar.cmpi .ne v878 c0_i32_420
  let v883 : BitVec 1 := Scalar.andi v882 v879
  let v884 : BitVec 32 := Scalar.addi v878 v877
  let v885 : BitVec 32 := Scalar.select v883 v884 v878
  let c1_i32_496 : BitVec 32 := 1#32
  let v1051 : BitVec 32 := Scalar.muli v885 c1_i32_496
  let v1052 : BitVec 32 := Scalar.addi c0_i32_497 v1051
  v1052.toNat
def k0_dev13 (d0 : Dev nD) : Nat :=
  let c0_i32_583 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_502 : BitVec 32 := 6#32
  let v1061 : BitVec 32 := Scalar.addi v2 c6_i32_502
  let c8_i32_503 : BitVec 32 := 8#32
  let c0_i32_504 : BitVec 32 := 0#32
  let v1062 : BitVec 1 := Scalar.cmpi .eq c8_i32_503 c0_i32_504
  let c1_i32_505 : BitVec 32 := 1#32
  let v1063 : BitVec 32 := Scalar.select v1062 c1_i32_505 c8_i32_503
  let v1064 : BitVec 32 := Scalar.remsi v1061 v1063
  let c0_i32_507 : BitVec 32 := 0#32
  let v1066 : BitVec 1 := Scalar.cmpi .slt v1064 c0_i32_507
  let c0_i32_508 : BitVec 32 := 0#32
  let v1067 : BitVec 1 := Scalar.cmpi .slt v1063 c0_i32_508
  let v1068 : BitVec 1 := Scalar.xori v1066 v1067
  let c0_i32_506 : BitVec 32 := 0#32
  let v1065 : BitVec 1 := Scalar.cmpi .ne v1064 c0_i32_506
  let v1069 : BitVec 1 := Scalar.andi v1068 v1065
  let v1070 : BitVec 32 := Scalar.addi v1064 v1063
  let v1071 : BitVec 32 := Scalar.select v1069 v1070 v1064
  let c1_i32_582 : BitVec 32 := 1#32
  let v1237 : BitVec 32 := Scalar.muli v1071 c1_i32_582
  let v1238 : BitVec 32 := Scalar.addi c0_i32_583 v1237
  v1238.toNat
def k0_dev14 (d0 : Dev nD) : Nat :=
  let c0_i32_669 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_588 : BitVec 32 := 7#32
  let v1247 : BitVec 32 := Scalar.addi v2 c7_i32_588
  let c8_i32_589 : BitVec 32 := 8#32
  let c0_i32_590 : BitVec 32 := 0#32
  let v1248 : BitVec 1 := Scalar.cmpi .eq c8_i32_589 c0_i32_590
  let c1_i32_591 : BitVec 32 := 1#32
  let v1249 : BitVec 32 := Scalar.select v1248 c1_i32_591 c8_i32_589
  let v1250 : BitVec 32 := Scalar.remsi v1247 v1249
  let c0_i32_593 : BitVec 32 := 0#32
  let v1252 : BitVec 1 := Scalar.cmpi .slt v1250 c0_i32_593
  let c0_i32_594 : BitVec 32 := 0#32
  let v1253 : BitVec 1 := Scalar.cmpi .slt v1249 c0_i32_594
  let v1254 : BitVec 1 := Scalar.xori v1252 v1253
  let c0_i32_592 : BitVec 32 := 0#32
  let v1251 : BitVec 1 := Scalar.cmpi .ne v1250 c0_i32_592
  let v1255 : BitVec 1 := Scalar.andi v1254 v1251
  let v1256 : BitVec 32 := Scalar.addi v1250 v1249
  let v1257 : BitVec 32 := Scalar.select v1255 v1256 v1250
  let c1_i32_668 : BitVec 32 := 1#32
  let v1423 : BitVec 32 := Scalar.muli v1257 c1_i32_668
  let v1424 : BitVec 32 := Scalar.addi c0_i32_669 v1423
  v1424.toNat
def k0_off9 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_674 : BitVec 32 := 256#32
  let v1433 : BitVec 32 := Scalar.muli v2 c256_i32_674
  let v1434 : Index := Scalar.indexCast v1433
  let c0_675 : Index := 0#32
  ![v1434.toNat, 0]
def k0_off10 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_674 : BitVec 32 := 256#32
  let v1433 : BitVec 32 := Scalar.muli v2 c256_i32_674
  let v1437 : Index := Scalar.indexCast v1433
  let c0_676 : Index := 0#32
  ![v1437.toNat, 0]
def k0_off11 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_674 : BitVec 32 := 256#32
  let v1433 : BitVec 32 := Scalar.muli v2 c256_i32_674
  let v1440 : Index := Scalar.indexCast v1433
  let c1_677 : Index := 1#32
  ![v1440.toNat, 1]
def k0_off12 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1765 : Index := Scalar.indexCast v2
  let c0_852 : Index := 0#32
  let c0_853 : Index := 0#32
  ![v1765.toNat, 0, 0]
def k0_dev15 (d0 : Dev nD) : Nat :=
  let c0_i32_862 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_854 : BitVec 32 := 1#32
  let v1769 : BitVec 32 := Scalar.addi v2 c1_i32_854
  let c8_i32_855 : BitVec 32 := 8#32
  let c0_i32_856 : BitVec 32 := 0#32
  let v1770 : BitVec 1 := Scalar.cmpi .eq c8_i32_855 c0_i32_856
  let c1_i32_857 : BitVec 32 := 1#32
  let v1771 : BitVec 32 := Scalar.select v1770 c1_i32_857 c8_i32_855
  let v1772 : BitVec 32 := Scalar.remsi v1769 v1771
  let c0_i32_859 : BitVec 32 := 0#32
  let v1774 : BitVec 1 := Scalar.cmpi .slt v1772 c0_i32_859
  let c0_i32_860 : BitVec 32 := 0#32
  let v1775 : BitVec 1 := Scalar.cmpi .slt v1771 c0_i32_860
  let v1776 : BitVec 1 := Scalar.xori v1774 v1775
  let c0_i32_858 : BitVec 32 := 0#32
  let v1773 : BitVec 1 := Scalar.cmpi .ne v1772 c0_i32_858
  let v1777 : BitVec 1 := Scalar.andi v1776 v1773
  let v1778 : BitVec 32 := Scalar.addi v1772 v1771
  let v1779 : BitVec 32 := Scalar.select v1777 v1778 v1772
  let c1_i32_861 : BitVec 32 := 1#32
  let v1780 : BitVec 32 := Scalar.muli v1779 c1_i32_861
  let v1781 : BitVec 32 := Scalar.addi c0_i32_862 v1780
  v1781.toNat
def k0_dev16 (d0 : Dev nD) : Nat :=
  let c0_i32_875 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_867 : BitVec 32 := 2#32
  let v1790 : BitVec 32 := Scalar.addi v2 c2_i32_867
  let c8_i32_868 : BitVec 32 := 8#32
  let c0_i32_869 : BitVec 32 := 0#32
  let v1791 : BitVec 1 := Scalar.cmpi .eq c8_i32_868 c0_i32_869
  let c1_i32_870 : BitVec 32 := 1#32
  let v1792 : BitVec 32 := Scalar.select v1791 c1_i32_870 c8_i32_868
  let v1793 : BitVec 32 := Scalar.remsi v1790 v1792
  let c0_i32_872 : BitVec 32 := 0#32
  let v1795 : BitVec 1 := Scalar.cmpi .slt v1793 c0_i32_872
  let c0_i32_873 : BitVec 32 := 0#32
  let v1796 : BitVec 1 := Scalar.cmpi .slt v1792 c0_i32_873
  let v1797 : BitVec 1 := Scalar.xori v1795 v1796
  let c0_i32_871 : BitVec 32 := 0#32
  let v1794 : BitVec 1 := Scalar.cmpi .ne v1793 c0_i32_871
  let v1798 : BitVec 1 := Scalar.andi v1797 v1794
  let v1799 : BitVec 32 := Scalar.addi v1793 v1792
  let v1800 : BitVec 32 := Scalar.select v1798 v1799 v1793
  let c1_i32_874 : BitVec 32 := 1#32
  let v1801 : BitVec 32 := Scalar.muli v1800 c1_i32_874
  let v1802 : BitVec 32 := Scalar.addi c0_i32_875 v1801
  v1802.toNat
def k0_dev17 (d0 : Dev nD) : Nat :=
  let c0_i32_888 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_880 : BitVec 32 := 3#32
  let v1811 : BitVec 32 := Scalar.addi v2 c3_i32_880
  let c8_i32_881 : BitVec 32 := 8#32
  let c0_i32_882 : BitVec 32 := 0#32
  let v1812 : BitVec 1 := Scalar.cmpi .eq c8_i32_881 c0_i32_882
  let c1_i32_883 : BitVec 32 := 1#32
  let v1813 : BitVec 32 := Scalar.select v1812 c1_i32_883 c8_i32_881
  let v1814 : BitVec 32 := Scalar.remsi v1811 v1813
  let c0_i32_885 : BitVec 32 := 0#32
  let v1816 : BitVec 1 := Scalar.cmpi .slt v1814 c0_i32_885
  let c0_i32_886 : BitVec 32 := 0#32
  let v1817 : BitVec 1 := Scalar.cmpi .slt v1813 c0_i32_886
  let v1818 : BitVec 1 := Scalar.xori v1816 v1817
  let c0_i32_884 : BitVec 32 := 0#32
  let v1815 : BitVec 1 := Scalar.cmpi .ne v1814 c0_i32_884
  let v1819 : BitVec 1 := Scalar.andi v1818 v1815
  let v1820 : BitVec 32 := Scalar.addi v1814 v1813
  let v1821 : BitVec 32 := Scalar.select v1819 v1820 v1814
  let c1_i32_887 : BitVec 32 := 1#32
  let v1822 : BitVec 32 := Scalar.muli v1821 c1_i32_887
  let v1823 : BitVec 32 := Scalar.addi c0_i32_888 v1822
  v1823.toNat
def k0_dev18 (d0 : Dev nD) : Nat :=
  let c0_i32_901 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_893 : BitVec 32 := 4#32
  let v1832 : BitVec 32 := Scalar.addi v2 c4_i32_893
  let c8_i32_894 : BitVec 32 := 8#32
  let c0_i32_895 : BitVec 32 := 0#32
  let v1833 : BitVec 1 := Scalar.cmpi .eq c8_i32_894 c0_i32_895
  let c1_i32_896 : BitVec 32 := 1#32
  let v1834 : BitVec 32 := Scalar.select v1833 c1_i32_896 c8_i32_894
  let v1835 : BitVec 32 := Scalar.remsi v1832 v1834
  let c0_i32_898 : BitVec 32 := 0#32
  let v1837 : BitVec 1 := Scalar.cmpi .slt v1835 c0_i32_898
  let c0_i32_899 : BitVec 32 := 0#32
  let v1838 : BitVec 1 := Scalar.cmpi .slt v1834 c0_i32_899
  let v1839 : BitVec 1 := Scalar.xori v1837 v1838
  let c0_i32_897 : BitVec 32 := 0#32
  let v1836 : BitVec 1 := Scalar.cmpi .ne v1835 c0_i32_897
  let v1840 : BitVec 1 := Scalar.andi v1839 v1836
  let v1841 : BitVec 32 := Scalar.addi v1835 v1834
  let v1842 : BitVec 32 := Scalar.select v1840 v1841 v1835
  let c1_i32_900 : BitVec 32 := 1#32
  let v1843 : BitVec 32 := Scalar.muli v1842 c1_i32_900
  let v1844 : BitVec 32 := Scalar.addi c0_i32_901 v1843
  v1844.toNat
def k0_dev19 (d0 : Dev nD) : Nat :=
  let c0_i32_914 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_906 : BitVec 32 := 5#32
  let v1853 : BitVec 32 := Scalar.addi v2 c5_i32_906
  let c8_i32_907 : BitVec 32 := 8#32
  let c0_i32_908 : BitVec 32 := 0#32
  let v1854 : BitVec 1 := Scalar.cmpi .eq c8_i32_907 c0_i32_908
  let c1_i32_909 : BitVec 32 := 1#32
  let v1855 : BitVec 32 := Scalar.select v1854 c1_i32_909 c8_i32_907
  let v1856 : BitVec 32 := Scalar.remsi v1853 v1855
  let c0_i32_911 : BitVec 32 := 0#32
  let v1858 : BitVec 1 := Scalar.cmpi .slt v1856 c0_i32_911
  let c0_i32_912 : BitVec 32 := 0#32
  let v1859 : BitVec 1 := Scalar.cmpi .slt v1855 c0_i32_912
  let v1860 : BitVec 1 := Scalar.xori v1858 v1859
  let c0_i32_910 : BitVec 32 := 0#32
  let v1857 : BitVec 1 := Scalar.cmpi .ne v1856 c0_i32_910
  let v1861 : BitVec 1 := Scalar.andi v1860 v1857
  let v1862 : BitVec 32 := Scalar.addi v1856 v1855
  let v1863 : BitVec 32 := Scalar.select v1861 v1862 v1856
  let c1_i32_913 : BitVec 32 := 1#32
  let v1864 : BitVec 32 := Scalar.muli v1863 c1_i32_913
  let v1865 : BitVec 32 := Scalar.addi c0_i32_914 v1864
  v1865.toNat
def k0_dev20 (d0 : Dev nD) : Nat :=
  let c0_i32_927 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_919 : BitVec 32 := 6#32
  let v1874 : BitVec 32 := Scalar.addi v2 c6_i32_919
  let c8_i32_920 : BitVec 32 := 8#32
  let c0_i32_921 : BitVec 32 := 0#32
  let v1875 : BitVec 1 := Scalar.cmpi .eq c8_i32_920 c0_i32_921
  let c1_i32_922 : BitVec 32 := 1#32
  let v1876 : BitVec 32 := Scalar.select v1875 c1_i32_922 c8_i32_920
  let v1877 : BitVec 32 := Scalar.remsi v1874 v1876
  let c0_i32_924 : BitVec 32 := 0#32
  let v1879 : BitVec 1 := Scalar.cmpi .slt v1877 c0_i32_924
  let c0_i32_925 : BitVec 32 := 0#32
  let v1880 : BitVec 1 := Scalar.cmpi .slt v1876 c0_i32_925
  let v1881 : BitVec 1 := Scalar.xori v1879 v1880
  let c0_i32_923 : BitVec 32 := 0#32
  let v1878 : BitVec 1 := Scalar.cmpi .ne v1877 c0_i32_923
  let v1882 : BitVec 1 := Scalar.andi v1881 v1878
  let v1883 : BitVec 32 := Scalar.addi v1877 v1876
  let v1884 : BitVec 32 := Scalar.select v1882 v1883 v1877
  let c1_i32_926 : BitVec 32 := 1#32
  let v1885 : BitVec 32 := Scalar.muli v1884 c1_i32_926
  let v1886 : BitVec 32 := Scalar.addi c0_i32_927 v1885
  v1886.toNat
def k0_dev21 (d0 : Dev nD) : Nat :=
  let c0_i32_940 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_932 : BitVec 32 := 7#32
  let v1895 : BitVec 32 := Scalar.addi v2 c7_i32_932
  let c8_i32_933 : BitVec 32 := 8#32
  let c0_i32_934 : BitVec 32 := 0#32
  let v1896 : BitVec 1 := Scalar.cmpi .eq c8_i32_933 c0_i32_934
  let c1_i32_935 : BitVec 32 := 1#32
  let v1897 : BitVec 32 := Scalar.select v1896 c1_i32_935 c8_i32_933
  let v1898 : BitVec 32 := Scalar.remsi v1895 v1897
  let c0_i32_937 : BitVec 32 := 0#32
  let v1900 : BitVec 1 := Scalar.cmpi .slt v1898 c0_i32_937
  let c0_i32_938 : BitVec 32 := 0#32
  let v1901 : BitVec 1 := Scalar.cmpi .slt v1897 c0_i32_938
  let v1902 : BitVec 1 := Scalar.xori v1900 v1901
  let c0_i32_936 : BitVec 32 := 0#32
  let v1899 : BitVec 1 := Scalar.cmpi .ne v1898 c0_i32_936
  let v1903 : BitVec 1 := Scalar.andi v1902 v1899
  let v1904 : BitVec 32 := Scalar.addi v1898 v1897
  let v1905 : BitVec 32 := Scalar.select v1903 v1904 v1898
  let c1_i32_939 : BitVec 32 := 1#32
  let v1906 : BitVec 32 := Scalar.muli v1905 c1_i32_939
  let v1907 : BitVec 32 := Scalar.addi c0_i32_940 v1906
  v1907.toNat
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S2048x1024 : Shape := ⟨2, ![2048, 1024]⟩
abbrev S1024x64 : Shape := ⟨2, ![1024, 64]⟩
abbrev S2048x2 : Shape := ⟨2, ![2048, 2]⟩
abbrev S64x1024x1024 : Shape := ⟨3, ![64, 1024, 1024]⟩
abbrev S2048x64 : Shape := ⟨2, ![2048, 64]⟩
abbrev S_ : Shape := ⟨0, ![]⟩
abbrev S2048 : Shape := ⟨1, ![2048]⟩
abbrev S2048x1 : Shape := ⟨2, ![2048, 1]⟩
abbrev S2 : Shape := ⟨1, ![2]⟩
abbrev S1x2 : Shape := ⟨2, ![1, 2]⟩
abbrev S1 : Shape := ⟨1, ![1]⟩
abbrev S1x1 : Shape := ⟨2, ![1, 1]⟩
abbrev S2048x1024x1024 : Shape := ⟨3, ![2048, 1024, 1024]⟩

abbrev nBuf : Space → Nat
  | .hbm => 99
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x64, .f32⟩
  | .hbm, ⟨2, _⟩ => ⟨S2048x2, .i32⟩
  | .hbm, ⟨3, _⟩ => ⟨S64x1024x1024, .f32⟩
  | .hbm, ⟨4, _⟩ => ⟨S2048x64, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S2048x64, .f32⟩
  | .hbm, ⟨9, _⟩ => ⟨S2048x64, .f32⟩
  | .hbm, ⟨10, _⟩ => ⟨S2048x64, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S2048x64, .f32⟩
  | .hbm, ⟨15, _⟩ => ⟨S2048x64, .f32⟩
  | .hbm, ⟨16, _⟩ => ⟨S2048, .i32⟩
  | .hbm, ⟨17, _⟩ => ⟨S2048x1, .i32⟩
  | .hbm, ⟨18, _⟩ => ⟨S2048, .i32⟩
  | .hbm, ⟨19, _⟩ => ⟨S2048x1, .i32⟩
  | .hbm, ⟨20, _⟩ => ⟨S2048, .i32⟩
  | .hbm, ⟨21, _⟩ => ⟨S2048x1, .i32⟩
  | .hbm, ⟨22, _⟩ => ⟨S2048x1, .i32⟩
  | .hbm, ⟨23, _⟩ => ⟨S2048x2, .i32⟩
  | .hbm, ⟨24, _⟩ => ⟨S2, .i32⟩
  | .hbm, ⟨25, _⟩ => ⟨S_, .i32⟩
  | .hbm, ⟨26, _⟩ => ⟨S2048x2, .i32⟩
  | .hbm, ⟨27, _⟩ => ⟨S2048x2, .i1⟩
  | .hbm, ⟨28, _⟩ => ⟨S1x2, .i32⟩
  | .hbm, ⟨29, _⟩ => ⟨S2048x2, .i32⟩
  | .hbm, ⟨30, _⟩ => ⟨S2048x2, .i1⟩
  | .hbm, ⟨31, _⟩ => ⟨S2048x2, .i1⟩
  | .hbm, ⟨32, _⟩ => ⟨S_, .i1⟩
  | .hbm, ⟨33, _⟩ => ⟨S2048, .i1⟩
  | .hbm, ⟨34, _⟩ => ⟨S2048, .f32⟩
  | .hbm, ⟨35, _⟩ => ⟨S_, .f32⟩
  | .hbm, ⟨36, _⟩ => ⟨S2048, .f32⟩
  | .hbm, ⟨37, _⟩ => ⟨S2048, .f32⟩
  | .hbm, ⟨38, _⟩ => ⟨S2048x1, .f32⟩
  | .hbm, ⟨39, _⟩ => ⟨S2048x1, .i32⟩
  | .hbm, ⟨40, _⟩ => ⟨S2048x1, .i32⟩
  | .hbm, ⟨41, _⟩ => ⟨S2048x2, .i32⟩
  | .hbm, ⟨42, _⟩ => ⟨S2, .i32⟩
  | .hbm, ⟨43, _⟩ => ⟨S_, .i32⟩
  | .hbm, ⟨44, _⟩ => ⟨S2048x2, .i32⟩
  | .hbm, ⟨45, _⟩ => ⟨S2048x2, .i1⟩
  | .hbm, ⟨46, _⟩ => ⟨S1x2, .i32⟩
  | .hbm, ⟨47, _⟩ => ⟨S2048x2, .i32⟩
  | .hbm, ⟨48, _⟩ => ⟨S2048x2, .i1⟩
  | .hbm, ⟨49, _⟩ => ⟨S2048x2, .i1⟩
  | .hbm, ⟨50, _⟩ => ⟨S_, .i1⟩
  | .hbm, ⟨51, _⟩ => ⟨S2048, .i1⟩
  | .hbm, ⟨52, _⟩ => ⟨S2048, .f32⟩
  | .hbm, ⟨53, _⟩ => ⟨S_, .f32⟩
  | .hbm, ⟨54, _⟩ => ⟨S2048, .f32⟩
  | .hbm, ⟨55, _⟩ => ⟨S2048, .f32⟩
  | .hbm, ⟨56, _⟩ => ⟨S2048x1, .f32⟩
  | .hbm, ⟨57, _⟩ => ⟨S2048x1, .f32⟩
  | .hbm, ⟨58, _⟩ => ⟨S2048x1, .i32⟩
  | .hbm, ⟨59, _⟩ => ⟨S1, .i32⟩
  | .hbm, ⟨60, _⟩ => ⟨S_, .i32⟩
  | .hbm, ⟨61, _⟩ => ⟨S2048x1, .i32⟩
  | .hbm, ⟨62, _⟩ => ⟨S2048x1, .i1⟩
  | .hbm, ⟨63, _⟩ => ⟨S1x1, .i32⟩
  | .hbm, ⟨64, _⟩ => ⟨S2048x1, .i32⟩
  | .hbm, ⟨65, _⟩ => ⟨S2048x1, .i1⟩
  | .hbm, ⟨66, _⟩ => ⟨S2048x1, .i1⟩
  | .hbm, ⟨67, _⟩ => ⟨S_, .i1⟩
  | .hbm, ⟨68, _⟩ => ⟨S2048, .i1⟩
  | .hbm, ⟨69, _⟩ => ⟨S2048x1024x1024, .f32⟩
  | .hbm, ⟨70, _⟩ => ⟨S2048x1024x1024, .i1⟩
  | .hbm, ⟨71, _⟩ => ⟨S_, .f32⟩
  | .hbm, ⟨72, _⟩ => ⟨S2048x1024x1024, .f32⟩
  | .hbm, ⟨73, _⟩ => ⟨S2048x1024x1024, .f32⟩
  | .hbm, ⟨74, _⟩ => ⟨S2048x1024, .f32⟩
  | .hbm, ⟨75, _⟩ => ⟨S2048x1, .i32⟩
  | .hbm, ⟨76, _⟩ => ⟨S1, .i32⟩
  | .hbm, ⟨77, _⟩ => ⟨S_, .i32⟩
  | .hbm, ⟨78, _⟩ => ⟨S2048x1, .i32⟩
  | .hbm, ⟨79, _⟩ => ⟨S2048x1, .i1⟩
  | .hbm, ⟨80, _⟩ => ⟨S1x1, .i32⟩
  | .hbm, ⟨81, _⟩ => ⟨S2048x1, .i32⟩
  | .hbm, ⟨82, _⟩ => ⟨S2048x1, .i1⟩
  | .hbm, ⟨83, _⟩ => ⟨S2048x1, .i1⟩
  | .hbm, ⟨84, _⟩ => ⟨S_, .i1⟩
  | .hbm, ⟨85, _⟩ => ⟨S2048, .i1⟩
  | .hbm, ⟨86, _⟩ => ⟨S2048x1024x1024, .f32⟩
  | .hbm, ⟨87, _⟩ => ⟨S2048x1024x1024, .i1⟩
  | .hbm, ⟨88, _⟩ => ⟨S_, .f32⟩
  | .hbm, ⟨89, _⟩ => ⟨S2048x1024x1024, .f32⟩
  | .hbm, ⟨90, _⟩ => ⟨S2048x1024x1024, .f32⟩
  | .hbm, ⟨91, _⟩ => ⟨S2048x1024, .f32⟩
  | .hbm, ⟨92, _⟩ => ⟨S2048x1, .f32⟩
  | .hbm, ⟨93, _⟩ => ⟨S2048x1024, .f32⟩
  | .hbm, ⟨94, _⟩ => ⟨S2048x1024, .f32⟩
  | .hbm, ⟨95, _⟩ => ⟨S2048x1, .f32⟩
  | .hbm, ⟨96, _⟩ => ⟨S2048x1024, .f32⟩
  | .hbm, ⟨97, _⟩ => ⟨S2048x1024, .f32⟩
  | .hbm, ⟨98, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_c_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_2 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c_4 : Ref sig .tc := ⟨.hbm, 42, rfl⟩
abbrev main_c_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c_6 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_c_8 : Ref sig .tc := ⟨.hbm, 59, rfl⟩
abbrev main_c_9 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_c_10 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_11 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_c_12 : Ref sig .tc := ⟨.hbm, 76, rfl⟩
abbrev main_c_13 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_c_14 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_15 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩

abbrev nD : Nat := 1
abbrev τ : Topo := Topo.v7x

variable {F : FTy → Type} [FloatOps F]
-- ==== Proof.Prog.lean ====
/-
  The kernel's body, written as the seven-fold passes it is: one piece per kind of step, each a function of
  the offset `r` (the peer at distance `r + 1`), and `each` running a piece at the seven offsets in order.
  The printed body unfolds to it.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

set_option synthInstance.maxSize 4096

noncomputable section

namespace Cert.KernelIdeal

open Idealize.ShloMosaic Idealize.SL.Sem
open Gen

variable {F : FTy → Type} [FloatOps F]

/-- The programs of a TensorCore. -/
abbrev Pr (F : FTy → Type) [FloatOps F] (α : Type) := Prog (TpuEff nD τ sig (Elt F) Λ₀ .tc) α

/-! ## The arithmetic of one block of rows -/

/-- The weight of local expert `e` on each row: the row's first choice's gate where that choice is the
    expert, plus the second's likewise. -/
def gateOf (v2 e : BitVec 32) (i0 i1 : Vec F S256x1 .i32) (g0 g1 : Vec F S256x1 .f32) : FVec F S256x1 .f32 :=
  let le : BitVec 32 := Scalar.addi (Scalar.muli v2 8#32) e
  addf
    (select (cmpi .eq (shapeCast S256x1 i0 shapeCasts_S256x1_S256x1) (broadcast S256x1 le)) g0
      (broadcast S256x1 (Scalar.ofBits .f32 0x00000000#32)))
    (select (cmpi .eq (shapeCast S256x1 i1 shapeCasts_S256x1_S256x1) (broadcast S256x1 le)) g1
      (broadcast S256x1 (Scalar.ofBits .f32 0x00000000#32)))

/-- The rows times one expert's matrix, in the narrow type. -/
def expertOf (x : Vec F S256x1024 .f32) (w : Vec F S1x1024x1024 .f32) : FVec F S256x1024 .f32 :=
  matmul dot_S256x1024_S1024x1024_S256x1024_1_0_0_1_n_n none
    (truncf .bf16 (shapeCast S256x1024 x shapeCasts_S256x1024_S256x1024) bitsLt_bf16_f32)
    (truncf .bf16 (shapeCast S1024x1024 w shapeCasts_S1x1024x1024_S1024x1024) bitsLt_bf16_f32)
    (constant S256x1024 .f32 0x00000000#32)

/-- One expert's term added to the block so far. -/
def addExpert (v2 e : BitVec 32) (x : Vec F S256x1024 .f32) (i0 i1 : Vec F S256x1 .i32) (g0 g1 : Vec F S256x1 .f32)
    (acc : FVec F S256x1024 .f32) (w : Vec F S1x1024x1024 .f32) : FVec F S256x1024 .f32 :=
  addf acc (mulf (broadcastTo S256x1024 (gateOf v2 e i0 i1 g0 g1) broadcasts_S256x1_S256x1024) (expertOf x w))

/-- The block from nothing. -/
def noTerms : FVec F S256x1024 .f32 := broadcast S256x1024 (Scalar.ofBits .f32 0x00000000#32)

/-- A block of rows narrowed, as the slot of an exchange buffer holds it. -/
def narrow (v : FVec F S256x1024 .f32) : FVec F S1x256x1024 .bf16 :=
  shapeCast S1x256x1024 (truncf .bf16 v bitsLt_bf16_f32) shapeCasts_S256x1024_S1x256x1024

/-- A slot's block of rows, widened. -/
def widen (v : Vec F S1x256x1024 .bf16) : FVec F S256x1024 .f32 :=
  extf .f32 (shapeCast S256x1024 v shapeCasts_S1x256x1024_S256x1024) bitsLt_bf16_f32

/-! ## The pieces -/

/-- A piece run at the seven offsets in order. -/
def each {α : Type} (f : Fin 7 → α → Pr F α) (a : α) : Pr F α :=
  f 0 a >>= fun a => f 1 a >>= fun a => f 2 a >>= fun a => f 3 a >>= fun a => f 4 a >>= fun a => f 5 a >>= fun a => f 6 a

/-- The eight experts of a device in order. -/
def each8 {α : Type} (f : Fin 8 → α → Pr F α) (a : α) : Pr F α :=
  f 0 a >>= fun a => f 1 a >>= fun a => f 2 a >>= fun a => f 3 a >>= fun a => f 4 a >>= fun a => f 5 a >>= fun a => f 6 a >>= fun a => f 7 a

/-- The offset as the printed text's word. -/
abbrev wd (r : Fin 7) : BitVec 32 := BitVec.ofNat 32 (1 + r.val)

/-- The printed peers: of the barrier's signals, of the scattered blocks, of the gathered blocks. -/
def sigDev (c : Dev nD) : Fin 7 → Dev nD :=
  ![⟨k0_dev1 c, k0_dev1_lt c⟩, ⟨k0_dev2 c, k0_dev2_lt c⟩, ⟨k0_dev3 c, k0_dev3_lt c⟩, ⟨k0_dev4 c, k0_dev4_lt c⟩,
    ⟨k0_dev5 c, k0_dev5_lt c⟩, ⟨k0_dev6 c, k0_dev6_lt c⟩, ⟨k0_dev7 c, k0_dev7_lt c⟩]
def rsDev (c : Dev nD) : Fin 7 → Dev nD :=
  ![⟨k0_dev8 c, k0_dev8_lt c⟩, ⟨k0_dev9 c, k0_dev9_lt c⟩, ⟨k0_dev10 c, k0_dev10_lt c⟩, ⟨k0_dev11 c, k0_dev11_lt c⟩,
    ⟨k0_dev12 c, k0_dev12_lt c⟩, ⟨k0_dev13 c, k0_dev13_lt c⟩, ⟨k0_dev14 c, k0_dev14_lt c⟩]
def agDev (c : Dev nD) : Fin 7 → Dev nD :=
  ![⟨k0_dev15 c, k0_dev15_lt c⟩, ⟨k0_dev16 c, k0_dev16_lt c⟩, ⟨k0_dev17 c, k0_dev17_lt c⟩, ⟨k0_dev18 c, k0_dev18_lt c⟩,
    ⟨k0_dev19 c, k0_dev19_lt c⟩, ⟨k0_dev20 c, k0_dev20_lt c⟩, ⟨k0_dev21 c, k0_dev21_lt c⟩]

/-- The buffers the body works on. -/
abbrev xM : Memref sig .tc .vmem S2048x1024 .f32 := Memref.whole cc0_stg0_0
abbrev rM : Memref sig .tc .vmem S1024x64 .f32 := Memref.whole cc0_stg1_0
abbrev iM : Memref sig .tc .vmem S2048x2 .i32 := Memref.whole cc0_stg2_0
abbrev wM : Memref sig .tc .vmem S8x1024x1024 .f32 := Memref.whole cc0_stg3_0
abbrev oM : Memref sig .tc .vmem S2048x1024 .f32 := Memref.whole cc0_stg4_0
abbrev gM : Memref sig .tc .vmem S2048x2 .f32 := Memref.whole cc0_scratch0
abbrev sndM : Memref sig .tc .vmem S8x256x1024 .bf16 := Memref.whole cc0_scratch1
abbrev rsM : Memref sig .tc .vmem S8x256x1024 .bf16 := Memref.whole cc0_scratch2
abbrev agM : Memref sig .tc .vmem S8x256x1024 .bf16 := Memref.whole cc0_scratch3

/-- Slot at the printed offsets of an exchange buffer: the device's own, and the peer's at offset `r`. -/
abbrev ownSlot (m : Memref sig .tc .vmem S8x256x1024 .bf16) (c : Dev nD) : Memref sig .tc .vmem S256x1024 .bf16 :=
  (m.slice (Rect.unit (s := S8x256x1024) (k0_off7 c) S1x256x1024.size (k0_off7_inb c)) (fun _ => rfl)).squeeze
    S256x1024 squeezes_S1x256x1024_S256x1024
abbrev peerSlot (m : Memref sig .tc .vmem S8x256x1024 .bf16) (c : Dev nD) (r : Fin 7) : Memref sig .tc .vmem S256x1024 .bf16 :=
  (m.slice (Rect.unit (s := S8x256x1024) (k0_off8 c (wd r)) S1x256x1024.size (k0_off8_inb c r)) (fun _ => rfl)).squeeze
    S256x1024 squeezes_S1x256x1024_S256x1024

/-- Semaphore at the printed offsets of an array: the device's own, and the peer's at offset `r`. -/
abbrev ownSem (a : DmaSems sig S8) (c : Dev nD) : DmaSem sig :=
  ((a.slice (Rect.unit (s := S8) (k0_off6 c) S1.size (k0_off6_inb c))).squeeze S_ squeezes_S1_S_).sem
abbrev peerSem (a : DmaSems sig S8) (c : Dev nD) (r : Fin 7) : DmaSem sig :=
  ((a.slice (Rect.unit (s := S8) (k0_off5 c (wd r)) S1.size (k0_off5_inb c r))).squeeze S_ squeezes_S1_S_).sem

/-- The barrier's semaphore. -/
abbrev barSem : Sems sig S_ := SemArray.scalar (sig.barrier 0 rfl)

/-- The barrier's signal to the peer at offset `r`. -/
def signalTo (c : Dev nD) (r : Fin 7) (_ : PUnit) : Pr F PUnit :=
  semSignalWord (sigDev c r) barSem.sem 1#32

/-- The gates of all rows, into the two columns of their buffer. -/
def gates : Pr F PUnit := do
  let x : Vec F S2048x1024 .f32 ← Prog.lift (.load xM (Rect.unit (s := S2048x1024) ![0, 0] S2048x1024.size inb_S2048x1024_S2048x1024_0_0).toLoadRect (View.loadsAt_vmem h_S2048x1024))
  let w : Vec F S1024x64 .f32 ← Prog.lift (.load rM (Rect.unit (s := S1024x64) ![0, 0] S1024x64.size inb_S1024x64_S1024x64_0_0).toLoadRect (View.loadsAt_vmem h_S1024x64))
  let i0 : Vec F S2048x1 .i32 ← Prog.lift (.load iM (Rect.unit (s := S2048x2) ![0, 0] S2048x1.size inb_S2048x2_S2048x1_0_0).toLoadRect (View.loadsAt_vmem h_S2048x1))
  let i1 : Vec F S2048x1 .i32 ← Prog.lift (.load iM (Rect.unit (s := S2048x2) ![0, 1] S2048x1.size inb_S2048x2_S2048x1_0_1).toLoadRect (View.loadsAt_vmem h_S2048x1))
  let _ : Vec F S2048x1 .f32 ← Prog.lift (.load gM (Rect.unit (s := S2048x2) ![0, 0] S2048x1.size inb_S2048x2_S2048x1_0_0).toLoadRect (View.loadsAt_vmem h_S2048x1))
  Prog.lift (.store gM (Rect.unit (s := S2048x2) ![0, 0] S2048x1.size inb_S2048x2_S2048x1_0_0) (k0_pay5 x w i0 i1) Finset.univ (View.stores_vmem_bits_univ h_S2048x1 rfl) (.inl rfl))
  let _ : Vec F S2048x1 .f32 ← Prog.lift (.load gM (Rect.unit (s := S2048x2) ![0, 1] S2048x1.size inb_S2048x2_S2048x1_0_1).toLoadRect (View.loadsAt_vmem h_S2048x1))
  Prog.lift (.store gM (Rect.unit (s := S2048x2) ![0, 1] S2048x1.size inb_S2048x2_S2048x1_0_1) (k0_pay6 x w i0 i1) Finset.univ (View.stores_vmem_bits_univ h_S2048x1 rfl) (.inl rfl))

/-- The word of local expert `e`. -/
abbrev we (e : Fin 8) : BitVec 32 := BitVec.ofNat 32 e.val

/-- Local expert `e`'s matrix lies in the window. -/
theorem inb_w (e : Fin 8) : ∀ a, (![e.val, 0, 0] : Fin 3 → Nat) a + S1x1024x1024.size a ≤ S8x1024x1024.size a := by
  revert e; decide +kernel

/-- One expert: load its matrix, add its term. -/
def expertStep (v2 : BitVec 32) (x : Vec F S256x1024 .f32) (i0 i1 : Vec F S256x1 .i32) (g0 g1 : Vec F S256x1 .f32)
    (e : Fin 8) (acc : FVec F S256x1024 .f32) : Pr F (FVec F S256x1024 .f32) := do
  let w : Vec F S1x1024x1024 .f32 ← Prog.lift (.load wM (Rect.unit (s := S8x1024x1024) ![e.val, 0, 0] S1x1024x1024.size (inb_w e)).toLoadRect (View.loadsAt_vmem h_S1x1024x1024))
  pure (addExpert v2 (we e) x i0 i1 g0 g1 acc w)

/-- The terms of the device's experts on the 256 rows at given corners. -/
def chunkAt (v2 : BitVec 32) (ox : Fin 2 → ℕ) (hx : ∀ a, ox a + S256x1024.size a ≤ S2048x1024.size a)
    (o0 : Fin 2 → ℕ) (h0 : ∀ a, o0 a + S256x1.size a ≤ S2048x2.size a)
    (o1 : Fin 2 → ℕ) (h1 : ∀ a, o1 a + S256x1.size a ≤ S2048x2.size a) : Pr F (FVec F S256x1024 .f32) := do
  let x : Vec F S256x1024 .f32 ← Prog.lift (.load xM (Rect.unit (s := S2048x1024) ox S256x1024.size hx).toLoadRect (View.loadsAt_vmem h_S256x1024))
  let i0 : Vec F S256x1 .i32 ← Prog.lift (.load iM (Rect.unit (s := S2048x2) o0 S256x1.size h0).toLoadRect (View.loadsAt_vmem h_S256x1))
  let i1 : Vec F S256x1 .i32 ← Prog.lift (.load iM (Rect.unit (s := S2048x2) o1 S256x1.size h1).toLoadRect (View.loadsAt_vmem h_S256x1))
  let g0 : Vec F S256x1 .f32 ← Prog.lift (.load gM (Rect.unit (s := S2048x2) o0 S256x1.size h0).toLoadRect (View.loadsAt_vmem h_S256x1))
  let g1 : Vec F S256x1 .f32 ← Prog.lift (.load gM (Rect.unit (s := S2048x2) o1 S256x1.size h1).toLoadRect (View.loadsAt_vmem h_S256x1))
  each8 (expertStep v2 x i0 i1 g0 g1) noTerms

/-- The peer's rows: compute, narrow into its slot of the send buffer, send to it. -/
def rsSend (v2 : BitVec 32) (c : Dev nD) (r : Fin 7) (_ : PUnit) : Pr F PUnit := do
  let a ← chunkAt v2 (k0_off1 c (wd r)) (k0_off1_inb c r) (k0_off2 c (wd r)) (k0_off2_inb c r) (k0_off3 c (wd r)) (k0_off3_inb c r)
  let _ : Vec F S1x256x1024 .bf16 ← Prog.lift (.load sndM (Rect.unit (s := S8x256x1024) (k0_off4 c (wd r)) S1x256x1024.size (k0_off4_inb c r)).toLoadRect (View.loadsAt_vmem h_S1x256x1024))
  Prog.lift (.store sndM (Rect.unit (s := S8x256x1024) (k0_off4 c (wd r)) S1x256x1024.size (k0_off4_inb c r)) (narrow a) Finset.univ (View.stores_vmem h_S1x256x1024 ((Memref.isWhole_whole cc0_scratch1).storeExact_slice rfl _ (k0_off4_packedbf16 c r)) (fun _ => rfl)) (.inl rfl))
  Prog.lift (.enqueueDma (peerSlot sndM c r) (.remote (Dev.tc (rsDev c r)) (ownSlot rsM c) (.dma (peerSem cc0_scratch4 c r))) (.dma (ownSem cc0_scratch5 c)) (((Memref.isWhole_whole cc0_scratch1).wordExact_slice rfl _ (k0_off8_wordsbf16 c r)).reshape _ _) (((Memref.isWhole_whole cc0_scratch2).wordExact_slice rfl _ (k0_off7_wordsbf16 c)).reshape _ _) ⟨⟨rfl, Or.inl rfl⟩, trivial⟩)

/-- A peer's block arrived: add it. -/
def rsTake (c : Dev nD) (r : Fin 7) (acc : FVec F S256x1024 .f32) : Pr F (FVec F S256x1024 .f32) := do
  Prog.lift (.waitDma2 (peerSem cc0_scratch5 c r) (peerSlot sndM c r) (peerSlot rsM c r) (((Memref.isWhole_whole cc0_scratch1).wordExact_slice rfl _ (k0_off8_wordsbf16 c r)).reshape _ _) (((Memref.isWhole_whole cc0_scratch2).wordExact_slice rfl _ (k0_off8_wordsbf16 c r)).reshape _ _))
  let v : Vec F S1x256x1024 .bf16 ← Prog.lift (.load rsM (Rect.unit (s := S8x256x1024) (k0_off4 c (wd r)) S1x256x1024.size (k0_off4_inb c r)).toLoadRect (View.loadsAt_vmem h_S1x256x1024))
  pure (addf acc (widen v))

/-- The device's own block: into the result, and narrowed into its own slot of the send buffer. -/
def keepOwn (c : Dev nD) (acc : FVec F S256x1024 .f32) : Pr F PUnit := do
  let _ : Vec F S256x1024 .f32 ← Prog.lift (.load oM (Rect.unit (s := S2048x1024) (k0_off9 c) S256x1024.size (k0_off9_inb c)).toLoadRect (View.loadsAt_vmem h_S256x1024))
  Prog.lift (.store oM (Rect.unit (s := S2048x1024) (k0_off9 c) S256x1024.size (k0_off9_inb c)) acc Finset.univ (View.stores_vmem_bits_univ h_S256x1024 rfl) (.inl rfl))
  let _ : Vec F S1x256x1024 .bf16 ← Prog.lift (.load sndM (Rect.unit (s := S8x256x1024) (k0_off12 c) S1x256x1024.size (k0_off12_inb c)).toLoadRect (View.loadsAt_vmem h_S1x256x1024))
  Prog.lift (.store sndM (Rect.unit (s := S8x256x1024) (k0_off12 c) S1x256x1024.size (k0_off12_inb c)) (narrow acc) Finset.univ (View.stores_vmem h_S1x256x1024 ((Memref.isWhole_whole cc0_scratch1).storeExact_slice rfl _ (k0_off12_packedbf16 c)) (fun _ => rfl)) (.inl rfl))

/-- The own block sent to the peer at offset `r`. -/
def agSend (c : Dev nD) (r : Fin 7) (_ : PUnit) : Pr F PUnit :=
  Prog.lift (.enqueueDma (ownSlot sndM c) (.remote (Dev.tc (agDev c r)) (ownSlot agM c) (.dma (peerSem cc0_scratch6 c r))) (.dma (ownSem cc0_scratch7 c)) (((Memref.isWhole_whole cc0_scratch1).wordExact_slice rfl _ (k0_off7_wordsbf16 c)).reshape _ _) (((Memref.isWhole_whole cc0_scratch3).wordExact_slice rfl _ (k0_off7_wordsbf16 c)).reshape _ _) ⟨⟨rfl, Or.inl rfl⟩, trivial⟩)

/-- A peer's finished block arrived: widen it into the result. -/
def agTake (c : Dev nD) (r : Fin 7) (_ : PUnit) : Pr F PUnit := do
  Prog.lift (.waitDma2 (peerSem cc0_scratch7 c r) (peerSlot sndM c r) (peerSlot agM c r) (((Memref.isWhole_whole cc0_scratch1).wordExact_slice rfl _ (k0_off8_wordsbf16 c r)).reshape _ _) (((Memref.isWhole_whole cc0_scratch3).wordExact_slice rfl _ (k0_off8_wordsbf16 c r)).reshape _ _))
  let v : Vec F S1x256x1024 .bf16 ← Prog.lift (.load agM (Rect.unit (s := S8x256x1024) (k0_off4 c (wd r)) S1x256x1024.size (k0_off4_inb c r)).toLoadRect (View.loadsAt_vmem h_S1x256x1024))
  let _ : Vec F S256x1024 .f32 ← Prog.lift (.load oM (Rect.unit (s := S2048x1024) (k0_off1 c (wd r)) S256x1024.size (k0_off1_inb c r)).toLoadRect (View.loadsAt_vmem h_S256x1024))
  Prog.lift (.store oM (Rect.unit (s := S2048x1024) (k0_off1 c (wd r)) S256x1024.size (k0_off1_inb c r)) (widen v) Finset.univ (View.stores_vmem_bits_univ h_S256x1024 rfl) (.inl rfl))

/-- A scattered block's sender has read it. -/
def rsDrain (c : Dev nD) (r : Fin 7) (_ : PUnit) : Pr F PUnit :=
  Prog.lift (.waitDma2 (peerSem cc0_scratch4 c r) (ownSlot rsM c) (peerSlot sndM c r) (((Memref.isWhole_whole cc0_scratch2).wordExact_slice rfl _ (k0_off7_wordsbf16 c)).reshape _ _) (((Memref.isWhole_whole cc0_scratch1).wordExact_slice rfl _ (k0_off8_wordsbf16 c r)).reshape _ _))

/-- A gathered block's sender has read it. -/
def agDrain (c : Dev nD) (r : Fin 7) (_ : PUnit) : Pr F PUnit :=
  Prog.lift (.waitDma2 (peerSem cc0_scratch6 c r) (ownSlot agM c) (ownSlot sndM c) (((Memref.isWhole_whole cc0_scratch3).wordExact_slice rfl _ (k0_off7_wordsbf16 c)).reshape _ _) (((Memref.isWhole_whole cc0_scratch1).wordExact_slice rfl _ (k0_off7_wordsbf16 c)).reshape _ _))

/-- The word the kernel computes for its place on the mesh axis. -/
def axisWord (c : Dev nD) : BitVec 32 := Scalar.remsi (Scalar.divsi (Dev.word c) 1#32) 8#32

/-- The body after the device has read its number. -/
def rest (c : Dev nD) : Pr F PUnit := do
  each (signalTo c) ⟨⟩
  semWaitWord barSem.sem 7#32
  gates
  each (rsSend (axisWord c) c) ⟨⟩
  let a ← chunkAt (axisWord c) (k0_off9 c) (k0_off9_inb c) (k0_off10 c) (k0_off10_inb c) (k0_off11 c) (k0_off11_inb c)
  let a ← each (rsTake c) a
  keepOwn c a
  each (agSend c) ⟨⟩
  each (agTake c) ⟨⟩
  each (rsDrain c) ⟨⟩
  each (agDrain c) ⟨⟩

/-- The body. -/
def body : Pr F PUnit := do
  let c : Dev nD ← Prog.lift .deviceId
  rest c

set_option maxRecDepth 65536 in
/-- The printed body is the passes, by unfolding. -/
theorem body_eq :
    cc0_body (F := F) xM (Memref.isWhole_whole _) rM (Memref.isWhole_whole _) iM (Memref.isWhole_whole _) wM (Memref.isWhole_whole _)
      oM (Memref.isWhole_whole _) gM (Memref.isWhole_whole _) sndM (Memref.isWhole_whole _) rsM (Memref.isWhole_whole _)
      agM (Memref.isWhole_whole _) cc0_scratch4 cc0_scratch5 cc0_scratch6 cc0_scratch7 = body := by
  chain_rfl

end Cert.KernelIdeal

end
-- ==== Proof.Values.lean ====
/-
  The values of the run, device by device, for any floats: what each exchange slot receives, what the gate
  buffer and the result hold. The peers of a device, and the printed offsets in terms of them.
-/
module

public import proofs.«01_k».proof.Proof.Prog
public import Idealize.ShloMosaic.Lib.ValueIdxCore

@[expose] public section

set_option synthInstance.maxSize 4096

noncomputable section

namespace Cert.KernelIdeal

open Idealize.ShloMosaic Idealize.ShloMosaic.ValueIdx Idealize.SL.Sem
open Gen

variable {F : FTy → Type} [FloatOps F]

/-! ## Peers -/

/-- The peer of device `c` at offset `r`: `r + 1` further round. -/
def peer (c : Dev nD) (r : Fin 7) : Dev nD := ⟨(c.val + r.val + 1) % 8, Nat.mod_lt _ (by decide)⟩

theorem peer_ne (c : Dev nD) (r : Fin 7) : peer c r ≠ c := by revert c r; decide +kernel
theorem peer_inj (c : Dev nD) : Function.Injective (peer c) := by
  have h : ∀ (c : Dev nD) (r r' : Fin 7), peer c r = peer c r' → r = r' := by decide +kernel
  exact fun r r' => h c r r'
theorem exists_peer : ∀ c d : Dev nD, d ≠ c → ∃ r, peer c r = d := by decide +kernel

theorem sigDev_eq : ∀ (c : Dev nD) (r : Fin 7), sigDev c r = peer c r := by decide +kernel
theorem rsDev_eq : ∀ (c : Dev nD) (r : Fin 7), rsDev c r = peer c r := by decide +kernel
theorem agDev_eq : ∀ (c : Dev nD) (r : Fin 7), agDev c r = peer c r := by decide +kernel

/-! ## Blocks of rows, slots, semaphores -/

/-- Where block `j`'s rows start, and block `j` of one of the two columns. -/
abbrev rowOff (j : Dev nD) : Fin 2 → ℕ := ![256 * j.val, 0]
abbrev colOff (k : Fin 2) (j : Dev nD) : Fin 2 → ℕ := ![256 * j.val, k.val]
abbrev slotOff (j : Dev nD) : Fin 3 → ℕ := ![j.val, 0, 0]

theorem rowOff_inb : ∀ (j : Dev nD) a, rowOff j a + S256x1024.size a ≤ S2048x1024.size a := by decide +kernel
theorem colOff_inb : ∀ (k : Fin 2) (j : Dev nD) a, colOff k j a + S256x1.size a ≤ S2048x2.size a := by decide +kernel
theorem slotOff_inb : ∀ (j : Dev nD) a, slotOff j a + S1x256x1024.size a ≤ S8x256x1024.size a := by decide +kernel

/-- The 256 rows of block `j` of a `2048 × 1024` buffer; of column `k` of a `2048 × 2` one. -/
abbrev rowsR (j : Dev nD) : Rect S2048x1024 := Rect.unit (rowOff j) S256x1024.size (rowOff_inb j)
abbrev colR (k : Fin 2) (j : Dev nD) : Rect S2048x2 := Rect.unit (colOff k j) S256x1.size (colOff_inb k j)
/-- Slot `j` of an exchange buffer, with its leading unit axis and without. -/
abbrev slotR (j : Dev nD) : Rect S8x256x1024 := Rect.unit (slotOff j) S1x256x1024.size (slotOff_inb j)
abbrev slotM (m : Memref sig .tc .vmem S8x256x1024 .bf16) (j : Dev nD) : Memref sig .tc .vmem S256x1024 .bf16 :=
  (m.slice (slotR j) (fun _ => rfl)).squeeze S256x1024 squeezes_S1x256x1024_S256x1024
/-- Block `j` of a `2048 × 1024` buffer. -/
abbrev rowsM (m : Memref sig .tc .vmem S2048x1024 .f32) (j : Dev nD) : Memref sig .tc .vmem S256x1024 .f32 :=
  m.slice (rowsR j) (fun _ => rfl)

theorem off1_eq : ∀ (c : Dev nD) (r : Fin 7), k0_off1 c (wd r) = rowOff (peer c r) := by decide +kernel
theorem off2_eq : ∀ (c : Dev nD) (r : Fin 7), k0_off2 c (wd r) = colOff 0 (peer c r) := by decide +kernel
theorem off3_eq : ∀ (c : Dev nD) (r : Fin 7), k0_off3 c (wd r) = colOff 1 (peer c r) := by decide +kernel
theorem off4_eq : ∀ (c : Dev nD) (r : Fin 7), k0_off4 c (wd r) = slotOff (peer c r) := by decide +kernel
theorem off8_eq : ∀ (c : Dev nD) (r : Fin 7), k0_off8 c (wd r) = slotOff (peer c r) := by decide +kernel
theorem off7_eq : ∀ c : Dev nD, k0_off7 c = slotOff c := by decide +kernel
theorem off9_eq : ∀ c : Dev nD, k0_off9 c = rowOff c := by decide +kernel
theorem off10_eq : ∀ c : Dev nD, k0_off10 c = colOff 0 c := by decide +kernel
theorem off11_eq : ∀ c : Dev nD, k0_off11 c = colOff 1 c := by decide +kernel
theorem off12_eq : ∀ c : Dev nD, k0_off12 c = slotOff c := by decide +kernel

theorem slot_congr (m : Memref sig .tc .vmem S8x256x1024 .bf16) {o o' : Fin 3 → ℕ} (h : o = o')
    (p : ∀ a, o a + S1x256x1024.size a ≤ S8x256x1024.size a) (p' : ∀ a, o' a + S1x256x1024.size a ≤ S8x256x1024.size a) :
    (m.slice (Rect.unit (s := S8x256x1024) o S1x256x1024.size p) (fun _ => rfl)).squeeze S256x1024 squeezes_S1x256x1024_S256x1024
      = (m.slice (Rect.unit (s := S8x256x1024) o' S1x256x1024.size p') (fun _ => rfl)).squeeze S256x1024 squeezes_S1x256x1024_S256x1024 := by
  subst h; rfl

theorem ownSlot_eq (m : Memref sig .tc .vmem S8x256x1024 .bf16) (c : Dev nD) : ownSlot m c = slotM m c :=
  slot_congr m (off7_eq c) _ _
theorem peerSlot_eq (m : Memref sig .tc .vmem S8x256x1024 .bf16) (c : Dev nD) (r : Fin 7) : peerSlot m c r = slotM m (peer c r) :=
  slot_congr m (off8_eq c r) _ _

/-- The four arrays of transfer semaphores: scattered blocks sent and received, gathered blocks sent and received. -/
abbrev semArr : Fin 4 → DmaSems sig S8 := ![cc0_scratch4, cc0_scratch5, cc0_scratch6, cc0_scratch7]
/-- Semaphore `j` of array `k`. -/
def dsem (k : Fin 4) (j : Dev nD) : DmaSem sig := ⟨5 + 8 * k.val + j.val, by
  have := k.isLt; have := j.isLt; show _ < 37; have : nD = 8 := rfl; omega⟩

theorem ownSem_eq : ∀ (k : Fin 4) (c : Dev nD), ownSem (semArr k) c = dsem k c := by decide +kernel
theorem peerSem_eq : ∀ (k : Fin 4) (c : Dev nD) (r : Fin 7), peerSem (semArr k) c r = dsem k (peer c r) := by decide +kernel

/-! ## Values -/

/-- What the four windows hold on each device. -/
structure Inp (F : FTy → Type) where
  x : Dev nD → S2048x1024.Idx → Elt F .f32
  w : Dev nD → S1024x64.Idx → Elt F .f32
  ids : Dev nD → S2048x2.Idx → Elt F .i32
  ew : Dev nD → S8x1024x1024.Idx → Elt F .f32

variable (A : Inp F)

/-- The whole of the first two windows and a whole column of the third, as the body loads them. -/
def xAll (c : Dev nD) : Vec F S2048x1024 .f32 :=
  xM.view.readAt (Elt F) (Rect.unit (s := S2048x1024) ![0, 0] S2048x1024.size inb_S2048x1024_S2048x1024_0_0).toLoadRect (A.x c)
def wAll (c : Dev nD) : Vec F S1024x64 .f32 :=
  rM.view.readAt (Elt F) (Rect.unit (s := S1024x64) ![0, 0] S1024x64.size inb_S1024x64_S1024x64_0_0).toLoadRect (A.w c)
def ids0 (c : Dev nD) : Vec F S2048x1 .i32 :=
  iM.view.readAt (Elt F) (Rect.unit (s := S2048x2) ![0, 0] S2048x1.size inb_S2048x2_S2048x1_0_0).toLoadRect (A.ids c)
def ids1 (c : Dev nD) : Vec F S2048x1 .i32 :=
  iM.view.readAt (Elt F) (Rect.unit (s := S2048x2) ![0, 1] S2048x1.size inb_S2048x2_S2048x1_0_1).toLoadRect (A.ids c)

/-- The two gates of every row, as the gate buffer holds them: one column each. -/
def gateBuf (c : Dev nD) : S2048x2.Idx → Elt F .f32 := fun i =>
  if (i 1).val = 0 then k0_pay5 (xAll A c) (wAll A c) (ids0 A c) (ids1 A c) (ix2 (i 0) 0)
  else k0_pay6 (xAll A c) (wAll A c) (ids0 A c) (ids1 A c) (ix2 (i 0) 0)

/-- Block `j`'s rows of the input, of the two columns of choices and of gates; a local expert's matrix. -/
def xBlk (c j : Dev nD) : Vec F S256x1024 .f32 := xM.view.readAt (Elt F) (rowsR j).toLoadRect (A.x c)
def idBlk (k : Fin 2) (c j : Dev nD) : Vec F S256x1 .i32 := iM.view.readAt (Elt F) (colR k j).toLoadRect (A.ids c)
def gBlk (k : Fin 2) (c j : Dev nD) : Vec F S256x1 .f32 := gM.view.readAt (Elt F) (colR k j).toLoadRect (gateBuf A c)
def ewOf (c : Dev nD) (e : Fin 8) : Vec F S1x1024x1024 .f32 :=
  wM.view.readAt (Elt F) (Rect.unit (s := S8x1024x1024) ![e.val, 0, 0] S1x1024x1024.size (inb_w e)).toLoadRect (A.ew c)

/-- A pure step taken at the eight experts, at the seven offsets, in order. -/
def each8v {α : Type} (g : Fin 8 → α → α) (a : α) : α := g 7 (g 6 (g 5 (g 4 (g 3 (g 2 (g 1 (g 0 a)))))))
def eachv {α : Type} (g : Fin 7 → α → α) (a : α) : α := g 6 (g 5 (g 4 (g 3 (g 2 (g 1 (g 0 a))))))

/-- The terms of device `c`'s experts on block `j`'s rows. -/
def chunkVal (c j : Dev nD) : FVec F S256x1024 .f32 :=
  each8v (fun e acc => addExpert (axisWord c) (we e) (xBlk A c j) (idBlk A 0 c j) (idBlk A 1 c j) (gBlk A 0 c j) (gBlk A 1 c j) acc (ewOf A c e)) noTerms

/-- What device `c` sends for block `j`'s rows. -/
def rsVal (c j : Dev nD) : FVec F S256x1024 .bf16 := truncf .bf16 (chunkVal A c j) bitsLt_bf16_f32
/-- Device `c`'s own block, all terms in. -/
def accVal (c : Dev nD) : FVec F S256x1024 .f32 :=
  eachv (fun r acc => addf acc (extf .f32 (rsVal A (peer c r) c) bitsLt_bf16_f32)) (chunkVal A c c)
/-- The same as it is sent round. -/
def agVal (c : Dev nD) : FVec F S256x1024 .bf16 := truncf .bf16 (accVal A c) bitsLt_bf16_f32
/-- Block `j` of the result on device `c`. -/
def outBlk (c j : Dev nD) : FVec F S256x1024 .f32 := if j = c then accVal A c else extf .f32 (agVal A j) bitsLt_bf16_f32
/-- The result on device `c`. -/
def outVal (c : Dev nD) : S2048x1024.Idx → Elt F .f32 := fun i =>
  outBlk A c ⟨(i 0).val / 256, Nat.div_lt_of_lt_mul (show (i 0).val < 256 * 8 from (i 0).isLt)⟩
    (ix2 ⟨(i 0).val % 256, Nat.mod_lt _ (by decide)⟩ (i 1))

/-! ## Facts about them -/

/-- Row `p`, column `q` of block `j` is row `256 j + p` of the whole. -/
theorem rowsR_emb_val0 (j : Dev nD) (x : S256x1024.Idx) : (((rowsR j).emb x) 0).val = 256 * j.val + (x 0).val := by
  show 256 * j.val + 1 * (x 0).val = _; omega
theorem rowsR_emb_val1 (j : Dev nD) (x : S256x1024.Idx) : (((rowsR j).emb x) 1).val = (x 1).val := by
  show 0 + 1 * (x 1).val = _; omega

theorem outVal_rows (c j : Dev nD) : (fun x => outVal A c ((rowsR j).emb x)) = outBlk A c j := by
  funext x
  have h0 := rowsR_emb_val0 j x
  have hx : (x 0).val < 256 := (x 0).isLt
  unfold outVal
  have e1 : (⟨(((rowsR j).emb x) 0).val / 256, Nat.div_lt_of_lt_mul (show (((rowsR j).emb x) 0).val < 256 * 8 from (((rowsR j).emb x) 0).isLt)⟩ : Dev nD) = j := by
    apply Fin.ext; show (((rowsR j).emb x) 0).val / 256 = j.val; omega
  rw [e1]
  congr 1
  rw [eq_ix2 x]
  congr 1
  · apply Fin.ext; show (((rowsR j).emb x) 0).val % 256 = (x 0).val; omega
  · apply Fin.ext; exact rowsR_emb_val1 j x

/-- The two columns of the gate buffer, stored one after the other, make it. -/
theorem gate_stores (c : Dev nD) (f : S2048x2.Idx → Elt F .f32) :
    (gM.access (Rect.unit (s := S2048x2) ![0, 1] S2048x1.size inb_S2048x2_S2048x1_0_1)).write (Elt F)
      ((gM.access (Rect.unit (s := S2048x2) ![0, 0] S2048x1.size inb_S2048x2_S2048x1_0_0)).write (Elt F) f
        (k0_pay5 (xAll A c) (wAll A c) (ids0 A c) (ids1 A c)) Finset.univ)
      (k0_pay6 (xAll A c) (wAll A c) (ids0 A c) (ids1 A c)) Finset.univ = gateBuf A c := by
  funext i
  by_cases h : (i 1).val = 0
  · have hi : (gM.access (Rect.unit (s := S2048x2) ![0, 0] S2048x1.size inb_S2048x2_S2048x1_0_0)).emb (ix2 (i 0) 0) = i := by
      funext a; apply Fin.ext
      match a with
      | ⟨0, _⟩ => show 0 + 1 * (i 0).val = (i 0).val; omega
      | ⟨1, _⟩ => show 0 + 1 * 0 = (i 1).val; omega
    rw [View.write_of_not_mem]
    · unfold gateBuf
      rw [if_pos h]
      conv_lhs => rw [← hi]
      rw [View.write_emb_of_mem _ _ (Finset.mem_univ _)]
      rfl
    · intro hm
      obtain ⟨y, -, hy⟩ := Finset.mem_map.mp hm
      have : (1 + 1 * (y 1).val : ℕ) = (i 1).val := congrArg (fun z : S2048x2.Idx => (z 1).val) hy
      omega
  · have hi : (gM.access (Rect.unit (s := S2048x2) ![0, 1] S2048x1.size inb_S2048x2_S2048x1_0_1)).emb (ix2 (i 0) 0) = i := by
      funext a; apply Fin.ext
      match a with
      | ⟨0, _⟩ => show 0 + 1 * (i 0).val = (i 0).val; omega
      | ⟨1, _⟩ => show 1 + 1 * 0 = (i 1).val; have : (i 1).val < 2 := (i 1).isLt; omega
    unfold gateBuf
    rw [if_neg h]
    conv_lhs => rw [← hi]
    rw [View.write_emb_of_mem _ _ (Finset.mem_univ _)]
    rfl

end Cert.KernelIdeal

end
-- ==== Proof.Protocol.lean ====
/-
  The exchange between the devices as a schedule of rounds. Every device has a barrier cell, paid one unit by
  each other device, which hands over its two landing slots for this device's blocks; and four cells for each
  other device: its scattered block read, that device's scattered block landed, its finished block read by that
  transfer, that device's finished block landed. One round each, with the contents that each transfer carries.
-/
module

public import proofs.«01_k».proof.Proof.Values
public import Idealize.ShloMosaic.Lib.Pipeline.Launch
public import Idealize.ShloMosaic.Lib.Pipeline.Kit
public import Idealize.ShloMosaic.Lib.ShareLeaves
public import Idealize.ShloMosaic.Lib.Pipeline.Value
public import Idealize.ShloMosaic.Lib.Tactic

@[expose] public section

noncomputable section

namespace Cert.KernelIdeal

open Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

/-! ## The cells -/

/-- A device's cells: its barrier's, and array `k`'s for each device. -/
abbrev CK : Type := Unit ⊕ (Fin 4 × Dev nD)
abbrev csem : CK → SemLoc sig
  | .inl _ => .reg barSem.sem
  | .inr (k, j) => .dma (dsem k j)
abbrev barCell (c : Dev nD) : GSem nD τ sig := ((c : Thread nD τ), .reg barSem.sem)
abbrev xcell (c : Dev nD) (k : Fin 4) (j : Dev nD) : GSem nD τ sig := ((c : Thread nD τ), .dma (dsem k j))
abbrev kcell (x : Dev nD × CK) : GSem nD τ sig := ((x.1 : Thread nD τ), csem x.2)

/-- Which cell a semaphore is of. -/
def kindOf : SemLoc sig → Option CK
  | .reg _ => some (.inl ())
  | .dma i => if 5 ≤ i.val then
      some (.inr (⟨(i.val - 5) / 8 % 4, Nat.mod_lt _ (by decide)⟩, ⟨(i.val - 5) % 8, Nat.mod_lt _ (by decide)⟩)) else none

theorem kindOf_bar : kindOf (.reg barSem.sem) = some (.inl ()) := rfl
theorem kindOf_xfer (k : Fin 4) (j : Dev nD) : kindOf (.dma (dsem k j)) = some (.inr (k, j)) := by revert k j; decide +kernel
theorem kindOf_csem : ∀ k : CK, kindOf (csem k) = some k
  | .inl () => kindOf_bar
  | .inr (k, j) => kindOf_xfer k j
theorem csem_injective : Function.Injective csem := fun k k' h => by
  have := congrArg kindOf h; rw [kindOf_csem, kindOf_csem] at this; exact Option.some.inj this

/-- What a block's transfer adds to a cell. -/
abbrev N : ℕ := (slotM sndM 0).view.dmaCredit
theorem N_pos : 0 < N := View.dmaCredit_pos _ (by decide)

variable (A : Inp F)

/-! ## The schedule -/

/-- A slot, or a block of rows, of a device's buffer held at some contents. -/
def ownsAny {sh : Shape} {e : EltTy} (c : Dev nD) (m : Memref sig .tc .vmem sh e) : sProp 𝕄 :=
  iprop(∃ X, owns (c : Thread nD τ) m fullShare X)

instance ownsAny_storable {sh : Shape} {e : EltTy} (c : Dev nD) (m : Memref sig .tc .vmem sh e) :
    BI.Storable (upEmb : UEmb _ 𝕄) (ownsAny (F := F) c m) := by unfold ownsAny; infer_instance

/-- The share of its finished block device `c` lends to the transfer to `j`. -/
abbrev lend (j : Dev nD) : PosShare TreeShare := ShareLeaves.leaf 3 fullShare j

/-- What `d`'s signal hands `c`: `d`'s landing slots for `c`'s scattered and finished blocks. -/
def barPay (c d : Dev nD) : sProp 𝕄 := iprop(ownsAny d (slotM rsM c) ∗ ownsAny d (slotM agM c))
/-- What cell `(k, j)` of device `c` is handed. -/
def xferPay (k : Fin 4) (c j : Dev nD) : sProp 𝕄 :=
  match k with
  | 0 => owns (c : Thread nD τ) (slotM sndM j) fullShare (rsVal A c j)
  | 1 => owns (c : Thread nD τ) (slotM rsM j) fullShare (rsVal A j c)
  | 2 => owns (c : Thread nD τ) (slotM sndM c) (lend j) (agVal A c)
  | 3 => owns (c : Thread nD τ) (slotM agM j) fullShare (agVal A j)

instance xferPay_storable (k : Fin 4) (c j : Dev nD) : BI.Storable (upEmb : UEmb _ 𝕄) (xferPay A k c j) := by
  unfold xferPay; (repeat' split) <;> infer_instance

/-- Who pays a cell of device `c`. -/
def payers (c : Dev nD) : Option CK → Finset (Dev nD)
  | some (.inl _) => Finset.univ.erase c
  | some (.inr (_, j)) => if j = c then ∅ else {j}
  | none => ∅

/-- One round, round 0. -/
def Rd : Rounds.Schedule (GSem nD τ sig) (Dev nD) 𝕄 where
  duties g r := if r = 0 ∧ g.1.2 = .tc then payers g.1.1 (kindOf g.2) else ∅
  unitless _ := False
  amount g _ _ := if kindOf g.2 = some (.inl ()) then 1 else N
  payload g _ d := match kindOf g.2 with
    | some (.inl _) => barPay g.1.1 d
    | some (.inr (k, j)) => xferPay A k g.1.1 j
    | none => iprop(emp)
  amount_pos g _ _ _ := by
    by_cases h : kindOf g.2 = some (.inl ())
    · rw [if_pos h]; exact Nat.one_pos
    · rw [if_neg h]; exact N_pos

instance Rd_payload_storable (g : GSem nD τ sig) (r : ℕ) (d : Dev nD) : BI.Storable (upEmb : UEmb _ 𝕄) ((Rd A).payload g r d) := by
  show BI.Storable upEmb (match kindOf g.2 with
    | some (.inl _) => barPay g.1.1 d
    | some (.inr (k, j)) => xferPay A k g.1.1 j
    | none => iprop(emp))
  unfold barPay
  split <;> infer_instance

section Sched
variable (c : Dev nD) (k : Fin 4) (j : Dev nD)

theorem duties_bar : (Rd A).duties (barCell c) 0 = Finset.univ.erase c := by
  dsimp only [Rd]; rw [if_pos ⟨rfl, rfl⟩, kindOf_bar]; rfl
theorem duties_xfer : (Rd A).duties (xcell c k j) 0 = if j = c then ∅ else {j} := by
  dsimp only [Rd]; rw [if_pos ⟨rfl, rfl⟩, kindOf_xfer]; rfl
theorem duties_own : ∀ r, 0 ≤ r → (Rd A).duties (xcell c k c) r = ∅ := fun r _ => by
  dsimp only [Rd]; split
  · rw [kindOf_xfer]; exact if_pos rfl
  · rfl
theorem duties_later (g : GSem nD τ sig) : ∀ r, 1 ≤ r → (Rd A).duties g r = ∅ :=
  fun r hr => by dsimp only [Rd]; exact if_neg fun h => by omega

theorem amount_bar (d : Dev nD) : (Rd A).amount (barCell c) 0 d = 1 := by dsimp only [Rd]; rw [kindOf_bar]; exact if_pos rfl
theorem amount_xfer (d : Dev nD) : (Rd A).amount (xcell c k j) 0 d = N := by
  dsimp only [Rd]; rw [kindOf_xfer]; exact if_neg (fun h => by cases h)

theorem expect_bar : (Rd A).expect (barCell c) 0 = 7 := by
  unfold Schedule.expect Schedule.amountOf
  rw [duties_bar, Finset.sum_congr rfl fun d _ => amount_bar A c d, Finset.sum_const, Finset.card_erase_of_mem (Finset.mem_univ _),
    Finset.card_univ, Fintype.card_fin, smul_eq_mul]
  rfl
theorem expect_xfer (h : j ≠ c) : (Rd A).expect (xcell c k j) 0 = N := by
  unfold Schedule.expect Schedule.amountOf
  rw [duties_xfer, if_neg h, Finset.sum_singleton, amount_xfer]

theorem payload_bar (d : Dev nD) : (Rd A).payload (barCell c) 0 d = barPay c d := by
  dsimp only [Rd]; rw [kindOf_bar]
theorem payload_xfer (d : Dev nD) : (Rd A).payload (xcell c k j) 0 d = xferPay A k c j := by
  dsimp only [Rd]; rw [kindOf_xfer]

/-- A cell's whole round. -/
theorem rest_bar : bigSep ((Rd A).duties (barCell c) 0 \ ∅) (fun d => (Rd A).payload (barCell c) 0 d)
    = (bigSep (Finset.univ.erase c) fun d => barPay c d : sProp 𝕄) := by
  rw [Finset.sdiff_empty, duties_bar]; exact bigSep_congr fun d _ => payload_bar A c d
theorem rest_xfer (h : j ≠ c) : bigSep ((Rd A).duties (xcell c k j) 0 \ ∅) (fun d => (Rd A).payload (xcell c k j) 0 d) = xferPay A k c j := by
  rw [Finset.sdiff_empty, duties_xfer, if_neg h, bigSep_singleton, payload_xfer]

end Sched

/-! ## What each device owes; the levels -/

/-- The terms of a seven-fold sum from the `n`-th on. -/
def tail {M : Type} [AddCommMonoid M] (f : Fin 7 → M) (n : ℕ) : M := ∑ r : Fin 7, if n ≤ r.val then f r else 0

theorem tail_succ {M : Type} [AddCommMonoid M] (f : Fin 7 → M) (r : Fin 7) : tail f r.val = tail f (r.val + 1) + f r := by
  unfold tail
  have h : ∀ x : Fin 7, (if r.val ≤ x.val then f x else 0) = (if r.val + 1 ≤ x.val then f x else 0) + (if x = r then f x else 0) := fun x => by
    by_cases hx : x = r
    · subst hx; rw [if_pos le_rfl, if_neg (by omega), if_pos rfl, zero_add]
    · have : x.val ≠ r.val := fun h => hx (Fin.ext h)
      rw [if_neg hx, add_zero]
      by_cases h1 : r.val ≤ x.val
      · rw [if_pos h1, if_pos (by omega)]
      · rw [if_neg h1, if_neg (by omega)]
  rw [Finset.sum_congr rfl fun x _ => h x, Finset.sum_add_distrib, Finset.sum_ite_eq' Finset.univ r f, if_pos (Finset.mem_univ _)]
theorem tail_end {M : Type} [AddCommMonoid M] (f : Fin 7 → M) : tail f 7 = 0 :=
  Finset.sum_eq_zero fun x _ => if_neg (by omega)
theorem tail_start {M : Type} [AddCommMonoid M] (f : Fin 7 → M) : tail f 0 = ∑ r, f r :=
  Finset.sum_congr rfl fun x _ => if_pos (Nat.zero_le _)

/-- What device `c` owes with `a` signals given, `b` scattered and `e` finished blocks sent. -/
def owed (c : Dev nD) (a b e : ℕ) : CellTallies nD τ sig Unit :=
  tail (fun r => tallyAt (barCell (peer c r)) () 1) a + tail (fun r => tallyAt (xcell (peer c r) 1 c) () N) b
    + tail (fun r => tallyAt (xcell (peer c r) 3 c) () N) e

theorem owed_signal (c : Dev nD) (r : Fin 7) (b e : ℕ) :
    owed c r.val b e = owed c (r.val + 1) b e + tallyAt (barCell (peer c r)) () 1 := by
  unfold owed; rw [tail_succ _ r, add_right_comm (tail _ _) (tallyAt _ _ _), add_right_comm _ (tallyAt _ _ _)]
theorem owed_scatter (c : Dev nD) (r : Fin 7) (a e : ℕ) :
    owed c a r.val e = owed c a (r.val + 1) e + tallyAt (xcell (peer c r) 1 c) () N := by
  unfold owed; rw [tail_succ _ r, ← add_assoc, add_right_comm _ (tallyAt _ _ _)]
theorem owed_gather (c : Dev nD) (r : Fin 7) (a b : ℕ) :
    owed c a b r.val = owed c a b (r.val + 1) + tallyAt (xcell (peer c r) 3 c) () N := by
  unfold owed; rw [tail_succ _ r, ← add_assoc]
theorem owed_none (c : Dev nD) : owed c 7 7 7 = 0 := by unfold owed; simp only [tail_end, add_zero]

def L (g : GSem nD τ sig) : Finset Unit := if g.1.2 = .tc then {()} else ∅
/-- The levels of a device's cells: the barrier at 1, scattered blocks landing at 2, finished ones at 3, the rest at 0. -/
def lvK : Option CK → ℕ
  | some (.inl _) => 1
  | some (.inr (1, _)) => 2
  | some (.inr (3, _)) => 3
  | _ => 0
def lv (g : GSem nD τ sig) (_ : Unit) : ℕ := lvK (kindOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_xfer (c : Dev nD) (k : Fin 4) (j : Dev nD) : lv (xcell c k j) () = lvK (some (.inr (k, j))) := by
  unfold lv; rw [kindOf_xfer]

theorem tail_pos {f : Fin 7 → CellTallies nD τ sig Unit} {n : ℕ} {g : GSem nD τ sig} {u : Unit} (h : 0 < tail f n g u) :
    ∃ r : Fin 7, n ≤ r.val ∧ 0 < f r g u := by
  unfold tail at h
  rw [Finset.sum_apply, Finsupp.finset_sum_apply] at h
  obtain ⟨r, -, hr⟩ := Finset.exists_ne_zero_of_sum_ne_zero (Nat.pos_iff_ne_zero.mp h)
  refine ⟨r, ?_⟩
  by_cases hn : n ≤ r.val
  · rw [if_pos hn] at hr; exact ⟨hn, Nat.pos_of_ne_zero hr⟩
  · rw [if_neg hn] at hr; exact absurd rfl hr
theorem tallyAt_pos {g g' : GSem nD τ sig} {u : Unit} {n : ℕ} (h : 0 < tallyAt g () n g' u) : g' = g := by
  rw [tallyAt_apply] at h
  by_contra hn
  rw [if_neg fun h' => hn h'.1] at h
  exact Nat.lt_irrefl 0 h

/-- A cell that is owed is a peer's barrier, or its landing cell for this device. -/
theorem owed_pos {c : Dev nD} {a b e : ℕ} {g : GSem nD τ sig} {u : Unit} (h : 0 < owed c a b e g u) :
    (∃ r : Fin 7, a ≤ r.val ∧ g = barCell (peer c r)) ∨ (∃ r : Fin 7, b ≤ r.val ∧ g = xcell (peer c r) 1 c)
      ∨ (∃ r : Fin 7, e ≤ r.val ∧ g = xcell (peer c r) 3 c) := by
  unfold owed at h
  rw [Pi.add_apply, Finsupp.add_apply, Pi.add_apply, Finsupp.add_apply] at h
  rcases Nat.add_pos_iff_pos_or_pos.mp h with h | h
  · rcases Nat.add_pos_iff_pos_or_pos.mp h with h | h
    · obtain ⟨r, hr, h⟩ := tail_pos h; exact .inl ⟨r, hr, tallyAt_pos h⟩
    · obtain ⟨r, hr, h⟩ := tail_pos h; exact .inr (.inl ⟨r, hr, tallyAt_pos h⟩)
  · obtain ⟨r, hr, h⟩ := tail_pos h; exact .inr (.inr ⟨r, hr, tallyAt_pos h⟩)

/-- Waiting below everything still owed is allowed. -/
theorem mayWait (c : Dev nD) (sm : SemLoc sig) (O : CellTallies nD τ sig Unit)
    (h : ∀ g u, 0 < O g u → g.1.2 = .tc ∧ lvK (kindOf sm) < lv g u) : (levAts L lv : sProp 𝕄) ⊢ MayWait (c : Thread nD τ) sm () O :=
  MayOwe.of_cut (L := L) (lev := lv) (lvK (kindOf sm)) (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact le_rfl)
    (fun g u hg => (h g u hg).2)

/-- The staging semaphores may be waited on with everything owed. -/
theorem owed_above_stage (c : Dev nD) {sm : SemLoc sig} (hs : lvK (kindOf sm) = 0) (g : GSem nD τ sig) (u : Unit)
    (h : 0 < owed c 0 0 0 g u) : g.1.2 = .tc ∧ lvK (kindOf sm) < lv g u := by
  rw [hs]
  rcases owed_pos h with ⟨r, -, rfl⟩ | ⟨r, -, rfl⟩ | ⟨r, -, rfl⟩
  · exact ⟨rfl, Nat.one_pos⟩
  · exact ⟨rfl, by rw [lv_xfer]; exact Nat.succ_pos _⟩
  · exact ⟨rfl, by rw [lv_xfer]; exact Nat.succ_pos _⟩
/-- The barrier, once the signals are given. -/
theorem owed_above_bar (c : Dev nD) (g : GSem nD τ sig) (u : Unit) (h : 0 < owed c 7 0 0 g u) :
    g.1.2 = .tc ∧ lvK (kindOf (.reg barSem.sem)) < lv g u := by
  rcases owed_pos h with ⟨r, hr, -⟩ | ⟨r, -, rfl⟩ | ⟨r, -, rfl⟩
  · omega
  · exact ⟨rfl, by rw [lv_xfer, kindOf_bar]; exact Nat.succ_lt_succ (Nat.succ_pos _)⟩
  · exact ⟨rfl, by rw [lv_xfer, kindOf_bar]; exact Nat.succ_lt_succ (Nat.succ_pos _)⟩
/-- The scattered blocks, once they are sent. -/
theorem owed_above_scatter (c j : Dev nD) (g : GSem nD τ sig) (u : Unit) (h : 0 < owed c 7 7 0 g u) :
    g.1.2 = .tc ∧ lvK (kindOf (.dma (dsem 1 j))) < lv g u := by
  rcases owed_pos h with ⟨r, hr, -⟩ | ⟨r, hr, -⟩ | ⟨r, -, rfl⟩
  · omega
  · omega
  · exact ⟨rfl, by rw [lv_xfer, kindOf_xfer]; exact Nat.lt_succ_self 2⟩
/-- Anything, with nothing owed. -/
theorem owed_above_all (c : Dev nD) (sm : SemLoc sig) (g : GSem nD τ sig) (u : Unit) (h : 0 < owed c 7 7 7 g u) :
    g.1.2 = .tc ∧ lvK (kindOf sm) < lv g u := by
  rw [owed_none] at h; exact absurd h (Nat.lt_irrefl 0)

end Cert.KernelIdeal

end
-- ==== Proof.Steps.lean ====
/-
  Rules for the pieces of the body: loads and stores of a slot or of a block of rows, a transfer to a peer, a
  wait on one of the device's cells, and a piece run at the seven offsets or the eight experts.
-/
module

public import proofs.«01_k».proof.Proof.Protocol

@[expose] public section

noncomputable section

namespace Cert.KernelIdeal

open Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A program of device `c`'s TensorCore meets a condition. -/
abbrev wpc {α : Type} (c : Dev nD) (p : Pr F α) (Q : α → sProp 𝕄) : sProp 𝕄 :=
  wp frame (wpE (defs₀ (F := F)) 𝒱₀ (c : Thread nD τ) none) Set.univ p Q

/-! ## Sequencing -/

/-- A step, then the rest with what the step leaves and what it did not touch. -/
theorem wpc_seq {α β : Type} {c : Dev nD} {p : Pr F α} {k : α → Pr F β} {P R : sProp 𝕄} {Q : α → sProp 𝕄} {Q' : β → sProp 𝕄}
    (hp : P ⊢ wpc c p Q) (hk : ∀ a, iprop(Q a ∗ R) ⊢ wpc c (k a) Q') : iprop(P ∗ R) ⊢ wpc c (p >>= k) Q' := by
  unfold wpc
  rw [wp_bind frame (wpE (defs₀ (F := F)) 𝒱₀ (c : Thread nD τ) none) Set.univ p k Q']
  exact ((sep_mono_left hp).trans (wp_frame_r _ _ _)).trans (wp_mono _ _ _ hk)

/-- A step that computes a known value. -/
theorem wpc_seq_val {α β : Type} {c : Dev nD} {p : Pr F α} {k : α → Pr F β} {P R Q : sProp 𝕄} {v : α} {Q' : β → sProp 𝕄}
    (hp : P ⊢ wpc c p (fun a => iprop(⌜a = v⌝ ∗ Q))) (hk : iprop(Q ∗ R) ⊢ wpc c (k v) Q') : iprop(P ∗ R) ⊢ wpc c (p >>= k) Q' :=
  wpc_seq hp fun a => by
    iintro ⟨⟨%h, HQ⟩, HR⟩
    subst h
    iapply hk
    isplitl [HQ] <;> iassumption

theorem wpc_pure {α : Type} {c : Dev nD} {a : α} {Q : α → sProp 𝕄} : Q a ⊢ wpc c (pure a : Pr F α) Q := by
  rw [Prog.pure_eq_ret]; unfold wpc; rw [wp_ret]; iintro H; imodintro; iexact H

/-- Seven summands one by one. -/
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- One of the seven, the rest of the summands set aside. -/
theorem each_step {α : Type} {c : Dev nD} {f : Fin 7 → α → Pr F α} {g : Fin 7 → α → α} {P : sProp 𝕄} [BI.Persistent P]
    {I : ℕ → sProp 𝕄} {A B : Fin 7 → sProp 𝕄}
    (h : ∀ r a, iprop(P ∗ I r.val ∗ A r) ⊢ wpc c (f r a) (fun a' => iprop(⌜a' = g r a⌝ ∗ I (r.val + 1) ∗ B r)))
    (r : Fin 7) (a : α) {β : Type} {k : α → Pr F β} {X Y : sProp 𝕄} {Q : β → sProp 𝕄}
    (hk : iprop(P ∗ I (r.val + 1) ∗ X ∗ (Y ∗ B r)) ⊢ wpc c (k (g r a)) Q) :
    iprop(P ∗ I r.val ∗ (A r ∗ X) ∗ Y) ⊢ wpc c (f r a >>= k) Q := by
  iintro ⟨#HP, HI, ⟨HA, HX⟩, HY⟩
  iapply (wpc_seq_val (P := iprop(P ∗ I r.val ∗ A r)) (R := iprop(P ∗ X ∗ Y)) (h r a) (by
    iintro ⟨⟨HI, HB⟩, #HP, HX, HY⟩
    iapply hk
    isplitr; · iexact HP
    isplitl [HI]; · iexact HI
    isplitl [HX]; · iexact HX
    isplitl [HY] <;> iassumption))
  isplitl [HI HA]
  · isplitr; · iexact HP
    isplitl [HI] <;> iassumption
  · isplitr; · iexact HP
    isplitl [HX] <;> iassumption

/-- A piece run at the seven offsets: what threads through, and each offset's part turned from `A` to `B`. -/
theorem wpc_each {α : Type} {c : Dev nD} {f : Fin 7 → α → Pr F α} {g : Fin 7 → α → α} {P : sProp 𝕄} [BI.Persistent P]
    {I : ℕ → sProp 𝕄} {A B : Fin 7 → sProp 𝕄}
    (h : ∀ r a, iprop(P ∗ I r.val ∗ A r) ⊢ wpc c (f r a) (fun a' => iprop(⌜a' = g r a⌝ ∗ I (r.val + 1) ∗ B r)))
    (a : α) :
    iprop(P ∗ I 0 ∗ bigSep Finset.univ A) ⊢ wpc c (each f a) (fun a' => iprop(⌜a' = eachv g a⌝ ∗ I 7 ∗ bigSep Finset.univ B)) := by
  have last (a : α) (Y : sProp 𝕄) : iprop(P ∗ I 6 ∗ A 6 ∗ Y) ⊢ wpc c (f 6 a) (fun a' => iprop(⌜a' = g 6 a⌝ ∗ I 7 ∗ (Y ∗ B 6))) := by
    have h6 : iprop(P ∗ I 6 ∗ A 6) ⊢ wpc c (f 6 a) (fun a' => iprop(⌜a' = g 6 a⌝ ∗ I 7 ∗ B 6)) := h 6 a
    iintro ⟨#HP, HI, HA, HY⟩
    iapply ((sep_mono_left h6).trans ((wp_frame_r _ _ _).trans (wp_mono _ _ _ fun a' => by
      iintro ⟨⟨%he, HI, HB⟩, HY⟩
      isplitr; · ipureintro; exact he
      isplitl [HI]; · iexact HI
      isplitl [HY] <;> iassumption)))
    isplitr [HY]
    · isplitr; · iexact HP
      isplitl [HI] <;> iassumption
    · iexact HY
  rw [bigSep_fin7 A, bigSep_fin7 B]
  have e : iprop(P ∗ I 0 ∗ (A 0 ∗ A 1 ∗ A 2 ∗ A 3 ∗ A 4 ∗ A 5 ∗ A 6)) ⊢ iprop(P ∗ I 0 ∗ (A 0 ∗ A 1 ∗ A 2 ∗ A 3 ∗ A 4 ∗ A 5 ∗ A 6) ∗ emp) := by
    iintro ⟨#HP, HI, HA⟩
    isplitr; · iexact HP
    isplitl [HI]; · iexact HI
    isplitl [HA]; · iexact HA
    iempintro
  refine e.trans ?_
  unfold each
  refine each_step h 0 a ?_
  refine each_step h 1 _ ?_
  refine each_step h 2 _ ?_
  refine each_step h 3 _ ?_
  refine each_step h 4 _ ?_
  refine each_step h 5 _ ?_
  refine (last _ _).trans (wp_mono _ _ _ fun a' => ?_)
  iintro ⟨%he, HI, ⟨⟨⟨⟨⟨⟨-, H0⟩, H1⟩, H2⟩, H3⟩, H4⟩, H5⟩, H6⟩
  isplitr; · ipureintro; exact he
  isplitl [HI]; · iexact HI
  isplitl [H0]; · iexact H0
  isplitl [H1]; · iexact H1
  isplitl [H2]; · iexact H2
  isplitl [H3]; · iexact H3
  isplitl [H4]; · iexact H4
  isplitl [H5] <;> iassumption

/-- The eight experts in order, on resources each leaves as they were. -/
theorem wpc_each8 {α : Type} {c : Dev nD} {f : Fin 8 → α → Pr F α} {g : Fin 8 → α → α} {P : sProp 𝕄}
    (h : ∀ e a, P ⊢ wpc c (f e a) (fun a' => iprop(⌜a' = g e a⌝ ∗ P))) (a : α) :
    P ⊢ wpc c (each8 f a) (fun a' => iprop(⌜a' = each8v g a⌝ ∗ P)) := by
  have step (e : Fin 8) (a : α) {β : Type} {k : α → Pr F β} {Q : β → sProp 𝕄} (hk : P ⊢ wpc c (k (g e a)) Q) :
      P ⊢ wpc c (f e a >>= k) Q :=
    (sep_emp (PROP := sProp 𝕄)).2.trans (wpc_seq_val (h e a) ((sep_emp (PROP := sProp 𝕄)).1.trans hk))
  unfold each8
  exact step 0 a (step 1 _ (step 2 _ (step 3 _ (step 4 _ (step 5 _ (step 6 _ (h 7 _)))))))

/-! ## Loads and stores -/

section Mem
variable {c : Dev nD} {sh : Shape} {e : EltTy} {m : Memref sig .tc .vmem sh e}

/-- A load from a buffer held whole. -/
theorem load_whole {r : LoadRect sh} {hl : m.view.LoadsAt r} {q : PosShare TreeShare} {f : Buf (Elt F) (m.view.loc (c : Thread nD τ))} :
    (m.view.loc (c : Thread nD τ) ↦{q} f : sProp 𝕄)
      ⊢ wpc c (Prog.lift (.load m r hl)) (fun w => iprop(⌜w = m.view.readAt (Elt F) r f⌝ ∗ m.view.loc (c : Thread nD τ) ↦{q} f)) := by
  iintro H
  unfold wpc Prog.lift
  iapply (wp_load 𝒱₀ (c : Thread nD τ) none Set.univ (m := m) (Finset.subset_univ _)) $$ H
  iintro H
  rw [wp_ret]; imodintro
  isplitr; · ipureintro; rfl
  iexact H

/-- A store to a buffer held whole. -/
theorem store_whole {r : Rect sh} {w : r.shape.Idx → Elt F e} {hx : (m.access r).Stores Finset.univ} {hm}
    {f : Buf (Elt F) (m.view.loc (c : Thread nD τ))} :
    (m.view.loc (c : Thread nD τ) ↦{fullShare} f : sProp 𝕄)
      ⊢ wpc c (Prog.lift (.store m r w Finset.univ hx hm)) (fun _ => iprop(m.view.loc (c : Thread nD τ) ↦{fullShare} (m.access r).write (Elt F) f w Finset.univ)) := by
  iintro H
  unfold wpc Prog.lift
  iapply (wp_store 𝒱₀ (c : Thread nD τ) none Set.univ (m := m) (r := r) (Mk := Finset.univ) (Finset.subset_univ _)) $$ H
  iintro H
  rw [wp_ret]; imodintro
  iexact H

/-- A load through a slice that is held. -/
theorem load_slice {r : Rect sh} {hr : ∀ a, r.stride a = 1} {hl : m.view.LoadsAt r.toLoadRect} {q : PosShare TreeShare} {X : r.shape.Idx → Elt F e} :
    (owns (c : Thread nD τ) (m.slice r hr) q X : sProp 𝕄)
      ⊢ wpc c (Prog.lift (.load m r.toLoadRect hl)) (fun w => iprop(⌜w = X⌝ ∗ owns (c : Thread nD τ) (m.slice r hr) q X)) := by
  unfold owns
  iintro ⟨%f, %hf, H⟩
  unfold wpc Prog.lift
  iapply (wp_load_rect 𝒱₀ (c : Thread nD τ) none Set.univ (m := m) (r := r) (S := (m.access r).set) (Finset.Subset.refl _)) $$ H
  iintro H
  rw [wp_ret]; imodintro
  isplitr; · ipureintro; exact hf
  iexists f
  isplitr; · ipureintro; exact hf
  iexact H

/-- A store through a slice that is held. -/
theorem store_slice {r : Rect sh} {hr : ∀ a, r.stride a = 1} {w : r.shape.Idx → Elt F e} {hx : (m.access r).Stores Finset.univ} {hm} {X : r.shape.Idx → Elt F e} :
    (owns (c : Thread nD τ) (m.slice r hr) fullShare X : sProp 𝕄)
      ⊢ wpc c (Prog.lift (.store m r w Finset.univ hx hm)) (fun _ => iprop(owns (c : Thread nD τ) (m.slice r hr) fullShare w)) := by
  unfold owns
  iintro ⟨%f, %hf, H⟩
  unfold wpc Prog.lift
  iapply (wp_store 𝒱₀ (c : Thread nD τ) none Set.univ (m := m) (r := r) (Mk := Finset.univ) (S := (m.access r).set) (Finset.Subset.refl _)) $$ H
  iintro H
  rw [wp_ret]; imodintro
  iexists ((m.access r).write (Elt F) f w Finset.univ)
  isplitr
  · ipureintro; exact View.read_write_univ (v := m.access r) f w
  iexact H

end Mem

/-! ## Slots -/

section Slot
variable {c : Dev nD} {m : Memref sig .tc .vmem S8x256x1024 .bf16} {j : Dev nD} {q : PosShare TreeShare}

theorem slot_set : (slotM m j).view.set = (m.slice (slotR j) (fun _ => rfl)).view.set :=
  View.set_reshape (v := (m.slice (slotR j) (fun _ => rfl)).view) squeezes_S1x256x1024_S256x1024.numel_eq

/-- A slot with its leading unit axis is the slot without, the contents recast. -/
theorem slot_of_slice (w : Vec F S1x256x1024 .bf16) :
    (owns (c : Thread nD τ) (m.slice (slotR j) (fun _ => rfl)) q w : sProp 𝕄)
      ⊢ owns (c : Thread nD τ) (slotM m j) q (shapeCast S256x1024 w shapeCasts_S1x256x1024_S256x1024) := by
  unfold owns
  iintro ⟨%f, %hf, H⟩
  iexists f
  isplitr
  · ipureintro; rw [← hf]; rfl
  rw [slot_set]; iexact H
theorem slice_of_slot (v : Vec F S256x1024 .bf16) :
    (owns (c : Thread nD τ) (slotM m j) q v : sProp 𝕄)
      ⊢ owns (c : Thread nD τ) (m.slice (slotR j) (fun _ => rfl)) q (shapeCast S1x256x1024 v shapeCasts_S256x1024_S1x256x1024) := by
  unfold owns
  iintro ⟨%f, %hf, H⟩
  iexists f
  isplitr
  · ipureintro; rw [← hf]
    exact (shapeCast_shapeCast ((m.slice (slotR j) (fun _ => rfl)).view.read (Elt F) f) shapeCasts_S1x256x1024_S256x1024 shapeCasts_S256x1024_S1x256x1024).symm
  rw [slot_set]; iexact H

/-- A load of a slot. -/
theorem load_slot {o : Fin 3 → ℕ} (ho : o = slotOff j) {hi : ∀ a, o a + S1x256x1024.size a ≤ S8x256x1024.size a}
    {hl : m.view.LoadsAt (Rect.unit (s := S8x256x1024) o S1x256x1024.size hi).toLoadRect} (v : Vec F S256x1024 .bf16) :
    (owns (c : Thread nD τ) (slotM m j) q v : sProp 𝕄)
      ⊢ wpc c (Prog.lift (.load m (Rect.unit (s := S8x256x1024) o S1x256x1024.size hi).toLoadRect hl))
          (fun w => iprop(⌜w = shapeCast S1x256x1024 v shapeCasts_S256x1024_S1x256x1024⌝ ∗ owns (c : Thread nD τ) (slotM m j) q v)) := by
  subst ho
  refine (slice_of_slot v).trans (load_slice.trans (wp_mono _ _ _ fun w => sep_mono_right ?_))
  refine (slot_of_slice _).trans (Entails.of_eq ?_)
  rw [shapeCast_shapeCast]

/-- A load of a slot whose value goes unused. -/
theorem load_slot_any {o : Fin 3 → ℕ} (ho : o = slotOff j) {hi : ∀ a, o a + S1x256x1024.size a ≤ S8x256x1024.size a}
    {hl : m.view.LoadsAt (Rect.unit (s := S8x256x1024) o S1x256x1024.size hi).toLoadRect} :
    (ownsAny (F := F) c (slotM m j) : sProp 𝕄)
      ⊢ wpc c (Prog.lift (.load m (Rect.unit (s := S8x256x1024) o S1x256x1024.size hi).toLoadRect hl)) (fun _ => ownsAny c (slotM m j)) := by
  unfold ownsAny
  iintro ⟨%v, H⟩
  iapply ((load_slot (m := m) ho v).trans (wp_mono _ _ _ fun w => by
    iintro ⟨-, H⟩; iexists v; iexact H)) $$ H

/-- A narrowed block stored into a slot. -/
theorem store_slot {o : Fin 3 → ℕ} (ho : o = slotOff j) {hi : ∀ a, o a + S1x256x1024.size a ≤ S8x256x1024.size a}
    {v : FVec F S256x1024 .f32} {hx : (m.access (Rect.unit (s := S8x256x1024) o S1x256x1024.size hi)).Stores Finset.univ} {hm} :
    (ownsAny (F := F) c (slotM m j) : sProp 𝕄)
      ⊢ wpc c (Prog.lift (.store m (Rect.unit (s := S8x256x1024) o S1x256x1024.size hi) (narrow v) Finset.univ hx hm))
          (fun _ => owns (c : Thread nD τ) (slotM m j) fullShare (truncf .bf16 v bitsLt_bf16_f32)) := by
  subst ho
  unfold ownsAny
  iintro ⟨%X, H⟩
  iapply ((slice_of_slot X).trans (store_slice.trans (wp_mono _ _ _ fun _ =>
    (slot_of_slice _).trans (Entails.of_eq (by unfold narrow; rw [shapeCast_shapeCast]))))) $$ H

end Slot

/-- A slot's recast block widened is the block widened. -/
theorem widen_slot (v : Vec F S256x1024 .bf16) :
    widen (shapeCast S1x256x1024 v shapeCasts_S256x1024_S1x256x1024) = extf .f32 v bitsLt_bf16_f32 := by
  unfold widen; rw [shapeCast_shapeCast]

/-! ## Blocks of rows -/

section Rows
variable {c j : Dev nD} {m : Memref sig .tc .vmem S2048x1024 .f32}

/-- A load of a block of rows whose value goes unused. -/
theorem load_rows_any {o : Fin 2 → ℕ} (ho : o = rowOff j) {hi : ∀ a, o a + S256x1024.size a ≤ S2048x1024.size a}
    {hl : m.view.LoadsAt (Rect.unit (s := S2048x1024) o S256x1024.size hi).toLoadRect} :
    (ownsAny (F := F) c (rowsM m j) : sProp 𝕄)
      ⊢ wpc c (Prog.lift (.load m (Rect.unit (s := S2048x1024) o S256x1024.size hi).toLoadRect hl)) (fun _ => ownsAny c (rowsM m j)) := by
  subst ho
  unfold ownsAny
  iintro ⟨%v, H⟩
  iapply (load_slice.trans (wp_mono _ _ _ fun w => by iintro ⟨-, H⟩; iexists v; iexact H)) $$ H

/-- A store of a block of rows. -/
theorem store_rows {o : Fin 2 → ℕ} (ho : o = rowOff j) {hi : ∀ a, o a + S256x1024.size a ≤ S2048x1024.size a}
    {w : S256x1024.Idx → Elt F .f32} {hx : (m.access (Rect.unit (s := S2048x1024) o S256x1024.size hi)).Stores Finset.univ} {hm} :
    (ownsAny (F := F) c (rowsM m j) : sProp 𝕄)
      ⊢ wpc c (Prog.lift (.store m (Rect.unit (s := S2048x1024) o S256x1024.size hi) w Finset.univ hx hm))
          (fun _ => owns (c : Thread nD τ) (rowsM m j) fullShare w) := by
  subst ho
  unfold ownsAny
  iintro ⟨%X, H⟩
  iapply store_slice $$ H

end Rows

/-! ## Signals, transfers, waits -/

variable (A : Inp F)

/-- What the devices know of each other: every cell's invariant, under the names the launch gave, and that each is at its
    first round. -/
def records (K : Dev nD × CK → ℕ) : sProp 𝕄 :=
  iprop((bigSep Finset.univ fun x : Dev nD × CK => cellInv ER (Rd A) (K x) (kcell x))
    ∗ bigSep Finset.univ fun x : Dev nD × CK => reached ER (kcell x) 0)

instance records_persistent (K : Dev nD × CK → ℕ) : BI.Persistent (records A K) := by unfold records; infer_instance

variable (K : Dev nD × CK → ℕ)

theorem inv_at (x : Dev nD × CK) : records A K ⊢ cellInv ER (Rd A) (K x) (kcell x) := by
  have h : (bigSep Finset.univ fun x : Dev nD × CK => (cellInv ER (Rd A) (K x) (kcell x) : sProp 𝕄)) ⊢ cellInv ER (Rd A) (K x) (kcell x) :=
    bigSep_elim (Finset.mem_univ x)
  unfold records; iintro ⟨H, -⟩; iapply h; iexact H
theorem reached_at (x : Dev nD × CK) : records A K ⊢ reached ER (kcell x) 0 := by
  have h : (bigSep Finset.univ fun x : Dev nD × CK => (reached ER (kcell x) 0 : sProp 𝕄)) ⊢ reached ER (kcell x) 0 :=
    bigSep_elim (Finset.mem_univ x)
  unfold records; iintro ⟨-, H⟩; iapply h; iexact H

/-- What a device still owes, whatever it has waited for. -/
def owing (c : Dev nD) (O : CellTallies nD τ sig Unit) : sProp 𝕄 := iprop(∃ W, owes (c : Thread nD τ) O W)

/-- A signal to another device's barrier, with the two landing slots. -/
theorem signal_step {c d : Dev nD} (hd : d ≠ c) {O₀ O : CellTallies nD τ sig Unit} (hO : O₀ = O + tallyAt (barCell d) () 1)
    {d' : Dev nD} (hd' : d' = d) :
    iprop(records A K ∗ owing c O₀ ∗ dutyTok ER (barCell d) 0 c ∗ barPay d c)
      ⊢ wpc c (semSignalWord d' barSem.sem 1#32) (fun _ => owing c O) := by
  subst hd'
  unfold owing wpc semSignalWord
  iintro ⟨#HR, ⟨%W, HO⟩, Ht, Hp⟩
  iapply (Rounds.wp_signal 𝒱₀ ER (Rd A) (c : Thread nD τ) none (dst := (d' : Thread nD τ)) (κ := K (d', .inl ()))
      (d := c) (by rw [duties_bar]; exact Finset.mem_erase.mpr ⟨hd.symm, Finset.mem_univ _⟩) ((amount_bar A d' c).trans (by decide)) () O hO)
    $$ [HO Ht Hp]
  · isplitr; · iapply (inv_at A K (d', .inl ())); iexact HR
    isplitl [HO]; · iexact HO
    isplitl [Ht]; · iexact Ht
    isplitl [Hp]; · rw [payload_bar]; iexact Hp
    iapply (reached_at A K (d', .inl ())); iexact HR
  iintro HO
  rw [wp_ret]; imodintro
  iexists W; iexact HO

/-- The wait for all the signals: every other device's landing slots. -/
theorem bar_step (c : Dev nD) {O : CellTallies nD τ sig Unit}
    (h : ∀ g u, 0 < O g u → g.1.2 = .tc ∧ lvK (kindOf (.reg barSem.sem)) < lv g u) :
    iprop((records A K ∗ levAts L lv) ∗ owing c O ∗ cred (tallyAt (barCell c) () 7) ∗ atPos ER (barCell c) 0 ∅ 0)
      ⊢ wpc c (semWaitWord barSem.sem 7#32) (fun _ => iprop(owing c O ∗ atPos ER (barCell c) 1 ∅ 0 ∗ bigSep (Finset.univ.erase c) fun d => barPay c d)) := by
  unfold owing wpc semWaitWord
  iintro ⟨⟨#HR, #Hlev⟩, ⟨%W, HO⟩, Hc, Hat⟩
  iapply (Rounds.wp_wait_rest_token 𝒱₀ ER (Rd A) (c : Thread nD τ) none (κ := K (c, .inl ()))
      (wpE_semWait_eq 𝒱₀ (c : Thread nD τ) none Set.univ) (Set.mem_univ _) () (O := O) (W := W) (R := 0) (m := 0) (T := ∅)
      (by rw [expect_bar]; decide)) $$ [Hc HO Hat]
  · isplitr; · iapply (inv_at A K (c, .inl ())); iexact HR
    isplitl [Hc]; · iexact Hc
    isplitl [HO]; · iexact HO
    isplitr; · iapply (mayWait c _ O h); iexact Hlev
    iexact Hat
  iintro ⟨HO, Hat, -, Hp⟩
  rw [wp_ret]; imodintro
  isplitl [HO]; · iexists _; iexact HO
  isplitl [Hat]; · iexact Hat
  iapply (Entails.of_eq (rest_bar A c)); iexact Hp

/-- A wait on one of the transfer cells: what the transfer left there. -/
theorem wait_step {c j : Dev nD} (hj : j ≠ c) (k : Fin 4) {O : CellTallies nD τ sig Unit}
    (h : ∀ g u, 0 < O g u → g.1.2 = .tc ∧ lvK (kindOf (.dma (dsem k j))) < lv g u)
    {sm : DmaSem sig} (hsm : sm = dsem k j) {src dst : Memref sig .tc .vmem S256x1024 .bf16} (hN : dst.view.dmaCredit = N)
    {h₁ : src.view.WordExact} {h₂ : dst.view.WordExact} :
    iprop((records A K ∗ levAts L lv) ∗ owing c O ∗ cred (tallyAt (xcell c k j) () N) ∗ atPos ER (xcell c k j) 0 ∅ 0)
      ⊢ wpc c (Prog.lift (.waitDma2 sm src dst h₁ h₂)) (fun _ => iprop(owing c O ∗ atPos ER (xcell c k j) 1 ∅ 0 ∗ xferPay A k c j)) := by
  subst hsm
  unfold owing wpc Prog.lift
  iintro ⟨⟨#HR, #Hlev⟩, ⟨%W, HO⟩, Hc, Hat⟩
  iapply (Rounds.wp_wait_rest_token 𝒱₀ ER (Rd A) (c : Thread nD τ) none (κ := K (c, .inr (k, j)))
      (wpE_waitDma2_eq 𝒱₀ (c : Thread nD τ) none Set.univ) (Set.mem_univ _) () (O := O) (W := W) (R := 0) (m := 0) (T := ∅)
      (by rw [Nat.zero_add, expect_xfer A c k j hj, hN])) $$ [Hc HO Hat]
  · isplitr; · iapply (inv_at A K (c, .inr (k, j))); iexact HR
    isplitl [Hc]; · rw [hN]; iexact Hc
    isplitl [HO]; · iexact HO
    isplitr; · iapply (mayWait c _ O h); iexact Hlev
    iexact Hat
  iintro ⟨HO, Hat, -, Hp⟩
  rw [wp_ret]; imodintro
  isplitl [HO]; · iexists _; iexact HO
  isplitl [Hat]; · iexact Hat
  iapply (Entails.of_eq (rest_xfer A c k j hj)); iexact Hp

/-- A transfer to device `d`: the source, at any share, into a slot of `d`'s, the cells `ks` here and `kd` there told. -/
theorem send_step {c d : Dev nD} (hd : d ≠ c) (ks kd : Fin 4) {O₀ O : CellTallies nD τ sig Unit}
    (hO : O₀ = O + tallyAt (xcell d kd c) () N)
    {src dst src₀ dst₀ : Memref sig .tc .vmem S256x1024 .bf16} (hsrc₀ : src₀ = src) (hdst₀ : dst₀ = dst) (hN : dst.view.dmaCredit = N)
    {d₀ : Dev nD} (hd₀ : d₀ = d) {ss sd : DmaSem sig} (hss : ss = dsem ks d) (hsd : sd = dsem kd c)
    {hsc : dst₀.view.ref.isScScratch = false} {h₁ : src₀.view.WordExact} {h₂ : dst₀.view.WordExact}
    {h₃ : DmaTarget.Typed .vmem (.dma sd) (.remote (Dev.tc d₀ : Thread nD τ) dst₀ (.dma ss) hsc)}
    {q : PosShare TreeShare} {v : Vec F S256x1024 .bf16}
    (hp₁ : (owns (c : Thread nD τ) src q v : sProp 𝕄) ⊢ xferPay A ks c d)
    (hp₂ : (owns (d : Thread nD τ) dst fullShare v : sProp 𝕄) ⊢ xferPay A kd d c) :
    iprop(records A K ∗ owing c O₀ ∗ owns (c : Thread nD τ) src q v ∗ ownsAny d dst
        ∗ dutyTok ER (xcell c ks d) 0 d ∗ dutyTok ER (xcell d kd c) 0 c)
      ⊢ wpc c (Prog.lift (.enqueueDma src₀ (.remote (Dev.tc d₀ : Thread nD τ) dst₀ (.dma ss) hsc) (.dma sd) h₁ h₂ h₃))
          (fun _ => iprop(owing c O ∗ cred (tallyAt (xcell c ks d) () N))) := by
  subst hsrc₀ hdst₀ hd₀ hss hsd
  unfold owing wpc Prog.lift ownsAny
  iintro ⟨#HR, ⟨%W, HO⟩, Hs, ⟨%X, Hd⟩, Ht₁, Ht₂⟩
  ihave Hs' := (show (owns (c : Thread nD τ) src₀ q v : sProp 𝕄) ⊢ iprop(∃ f, ⌜src₀.view.read (Elt F) f = v⌝ ∗ src₀.view.loc (c : Thread nD τ) ↦[src₀.view.set]{q} f) from .rfl) $$ Hs
  ihave Hd' := (show (owns (d₀ : Thread nD τ) dst₀ fullShare X : sProp 𝕄) ⊢ iprop(∃ f, ⌜dst₀.view.read (Elt F) f = X⌝ ∗ dst₀.view.loc (d₀ : Thread nD τ) ↦[dst₀.view.set]{fullShare} f) from .rfl) $$ Hd
  icases Hs' with ⟨%fs, %hfs, Hs⟩
  icases Hd' with ⟨%fd, %hfd, Hd⟩
  subst hfs
  iapply (Rounds.wp_send_pointsTo 𝒱₀ ER (Rd A) (c : Thread nD τ) none (κ₁ := K (c, .inr (ks, d₀))) (κ₂ := K (d₀, .inr (kd, c)))
      (r₁ := 0) (r₂ := 0) (d₁ := d₀) (d₂ := c) (fd := fd) (fs := fs)
      (by rw [duties_xfer, if_neg hd]; exact Finset.mem_singleton_self _) (by rw [duties_xfer, if_neg hd.symm]; exact Finset.mem_singleton_self _)
      () () N (show dst₀.view.amount (.dma (dsem kd c)) = N from hN) (amount_xfer A c ks d₀ d₀) (amount_xfer A d₀ kd c c) O hO (W := W)
      (by rw [payload_xfer]; exact (owns_intro (c : Thread nD τ) src₀ q fs).trans hp₁)
      (by
        rw [payload_xfer]
        refine (owns_intro (d₀ : Thread nD τ) dst₀ fullShare _).trans ?_
        rw [View.read_write_univ]
        exact hp₂)) $$ [HO Hs Hd Ht₁ Ht₂]
  · isplitr; · iapply (inv_at A K (c, .inr (ks, d₀))); iexact HR
    isplitr; · iapply (inv_at A K (d₀, .inr (kd, c))); iexact HR
    isplitl [Hs]; · iexact Hs
    isplitl [Hd]; · iexact Hd
    isplitl [HO]; · iexact HO
    isplitl [Ht₁]; · iexact Ht₁
    isplitr; · iapply (reached_at A K (c, .inr (ks, d₀))); iexact HR
    isplitl [Ht₂]; · iexact Ht₂
    iapply (reached_at A K (d₀, .inr (kd, c))); iexact HR
  iintro ⟨Hc, HO⟩
  rw [wp_ret]; imodintro
  isplitl [HO]; · iexists W; iexact HO
  iexact Hc

end Cert.KernelIdeal

end
-- ==== Proof.Phases.lean ====
/-
  The body's passes, each from what it takes to what it leaves, on one device.
-/
module

public import proofs.«01_k».proof.Proof.Steps

@[expose] public section

set_option synthInstance.maxSize 4096

noncomputable section

namespace Cert.KernelIdeal

open Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Inp F) (K : Dev nD × CK → ℕ)

/-- The devices other than `c` are its peers. -/
theorem others_eq (c : Dev nD) : (Finset.univ.erase c : Finset (Dev nD)) = Finset.univ.map ⟨peer c, peer_inj c⟩ := by
  ext d
  rw [Finset.mem_erase, Finset.mem_map]
  constructor
  · rintro ⟨h, -⟩
    obtain ⟨r, hr⟩ := exists_peer c d h
    exact ⟨r, Finset.mem_univ _, hr⟩
  · rintro ⟨r, -, hr⟩
    exact ⟨hr ▸ peer_ne c r, Finset.mem_univ _⟩
theorem bigSep_others (c : Dev nD) (Φ : Dev nD → sProp 𝕄) :
    bigSep (Finset.univ.erase c) Φ = bigSep Finset.univ fun r => Φ (peer c r) := by
  rw [others_eq c, bigSep_map]; rfl
/-- A summand for every device is the device's own and its peers'. -/
theorem bigSep_peers (c : Dev nD) (Φ : Dev nD → sProp 𝕄) :
    bigSep Finset.univ Φ = iprop(Φ c ∗ bigSep Finset.univ fun r => Φ (peer c r)) := by
  rw [bigSep_univ_at Φ c, bigSep_others]

/-! ## What is only read -/

/-- The input windows at their contents. -/
def held (c : Dev nD) : sProp 𝕄 :=
  iprop((xM.view.loc (c : Thread nD τ) ↦{fullShare} A.x c) ∗ (rM.view.loc (c : Thread nD τ) ↦{fullShare} A.w c)
    ∗ (iM.view.loc (c : Thread nD τ) ↦{fullShare} A.ids c) ∗ (wM.view.loc (c : Thread nD τ) ↦{fullShare} A.ew c))

/-- The gate buffer at given contents. -/
def gPts (c : Dev nD) (f : S2048x2.Idx → Elt F .f32) : sProp 𝕄 := gM.view.loc (c : Thread nD τ) ↦{fullShare} f

/-- The gates of all rows. -/
theorem gates_step (c : Dev nD) :
    iprop(held A c ∗ ∃ f, gPts (F := F) c f) ⊢ wpc c gates (fun _ => iprop(held A c ∗ gPts c (gateBuf A c))) := by
  unfold gates wpc held gPts
  simp only [Prog.lift, Prog.bind_op, Prog.bind_ret]
  iintro ⟨⟨Hx, Hr, Hi, Hw⟩, ⟨%f, Hg⟩⟩
  iapply (wp_load 𝒱₀ (c : Thread nD τ) none Set.univ (m := xM) (Finset.subset_univ _)) $$ Hx; iintro Hx
  iapply (wp_load 𝒱₀ (c : Thread nD τ) none Set.univ (m := rM) (Finset.subset_univ _)) $$ Hr; iintro Hr
  iapply (wp_load 𝒱₀ (c : Thread nD τ) none Set.univ (m := iM) (Finset.subset_univ _)) $$ Hi; iintro Hi
  iapply (wp_load 𝒱₀ (c : Thread nD τ) none Set.univ (m := iM) (Finset.subset_univ _)) $$ Hi; iintro Hi
  iapply (wp_load 𝒱₀ (c : Thread nD τ) none Set.univ (m := gM) (Finset.subset_univ _)) $$ Hg; iintro Hg
  iapply (wp_store 𝒱₀ (c : Thread nD τ) none Set.univ (m := gM) (r := Rect.unit (s := S2048x2) ![0, 0] S2048x1.size inb_S2048x2_S2048x1_0_0) (Mk := Finset.univ) (Finset.subset_univ _)) $$ Hg; iintro Hg
  iapply (wp_load 𝒱₀ (c : Thread nD τ) none Set.univ (m := gM) (Finset.subset_univ _)) $$ Hg; iintro Hg
  iapply (wp_store 𝒱₀ (c : Thread nD τ) none Set.univ (m := gM) (r := Rect.unit (s := S2048x2) ![0, 1] S2048x1.size inb_S2048x2_S2048x1_0_1) (Mk := Finset.univ) (Finset.subset_univ _)) $$ Hg; iintro Hg
  rw [wp_ret]; imodintro
  isplitr [Hg]
  · isplitl [Hx]; · iexact Hx
    isplitl [Hr]; · iexact Hr
    isplitl [Hi] <;> iassumption
  · rw [← gate_stores A c f]; iexact Hg

/-- One expert's term. -/
theorem expert_step (c j : Dev nD) (e : Fin 8) (acc : FVec F S256x1024 .f32) :
    held A c ⊢ wpc c (expertStep (axisWord c) (xBlk A c j) (idBlk A 0 c j) (idBlk A 1 c j) (gBlk A 0 c j) (gBlk A 1 c j) e acc)
      (fun a => iprop(⌜a = addExpert (axisWord c) (we e) (xBlk A c j) (idBlk A 0 c j) (idBlk A 1 c j) (gBlk A 0 c j) (gBlk A 1 c j) acc (ewOf A c e)⌝ ∗ held A c)) := by
  unfold expertStep wpc held
  simp only [Prog.lift, Prog.bind_op, Prog.bind_ret, Prog.pure_eq_ret]
  iintro ⟨Hx, Hr, Hi, Hw⟩
  iapply (wp_load 𝒱₀ (c : Thread nD τ) none Set.univ (m := wM) (Finset.subset_univ _)) $$ Hw; iintro Hw
  rw [wp_ret]; imodintro
  isplitr; · ipureintro; rfl
  isplitl [Hx]; · iexact Hx
  isplitl [Hr]; · iexact Hr
  isplitl [Hi] <;> iassumption

/-- The terms of the device's experts on block `j`. -/
theorem chunk_step (c j : Dev nD) {ox o0 o1 : Fin 2 → ℕ} (ex : ox = rowOff j) (e0 : o0 = colOff 0 j) (e1 : o1 = colOff 1 j) {hx h0 h1} :
    iprop(held A c ∗ gPts c (gateBuf A c)) ⊢ wpc c (chunkAt (axisWord c) ox hx o0 h0 o1 h1)
      (fun a => iprop(⌜a = chunkVal A c j⌝ ∗ (held A c ∗ gPts c (gateBuf A c)))) := by
  subst ex e0 e1
  unfold chunkAt
  simp only [Prog.lift, Prog.bind_op, Prog.bind_ret]
  iintro ⟨Hh, Hg⟩
  unfold held gPts
  icases Hh with ⟨Hx, Hr, Hi, Hw⟩
  iapply (wp_load 𝒱₀ (c : Thread nD τ) none Set.univ (m := xM) (Finset.subset_univ _)) $$ Hx; iintro Hx
  iapply (wp_load 𝒱₀ (c : Thread nD τ) none Set.univ (m := iM) (Finset.subset_univ _)) $$ Hi; iintro Hi
  iapply (wp_load 𝒱₀ (c : Thread nD τ) none Set.univ (m := iM) (Finset.subset_univ _)) $$ Hi; iintro Hi
  iapply (wp_load 𝒱₀ (c : Thread nD τ) none Set.univ (m := gM) (Finset.subset_univ _)) $$ Hg; iintro Hg
  iapply (wp_load 𝒱₀ (c : Thread nD τ) none Set.univ (m := gM) (Finset.subset_univ _)) $$ Hg; iintro Hg
  ihave Hh := (show iprop((xM.view.loc (c : Thread nD τ) ↦{fullShare} A.x c) ∗ (rM.view.loc (c : Thread nD τ) ↦{fullShare} A.w c)
    ∗ (iM.view.loc (c : Thread nD τ) ↦{fullShare} A.ids c) ∗ (wM.view.loc (c : Thread nD τ) ↦{fullShare} A.ew c)) ⊢ held A c from .rfl) $$ [Hx Hr Hi Hw]
  · isplitl [Hx]; · iexact Hx
    isplitl [Hr]; · iexact Hr
    isplitl [Hi] <;> iassumption
  iapply (((sep_mono_left (wpc_each8 (expert_step A c j) noTerms)).trans (wp_frame_r _ _ _)).trans (wp_mono _ _ _ fun a => show
      iprop((⌜a = chunkVal A c j⌝ ∗ held A c) ∗ (gM.view.loc (c : Thread nD τ) ↦{fullShare} gateBuf A c)) ⊢
        iprop(⌜a = chunkVal A c j⌝ ∗ (held A c ∗ (gM.view.loc (c : Thread nD τ) ↦{fullShare} gateBuf A c))) from sep_assoc.1))
  isplitl [Hh] <;> iassumption

/-! ## The passes -/

/-- What a block's transfer adds, whichever slot it is. -/
theorem credit_slot (m : Memref sig .tc .vmem S8x256x1024 .bf16) (j : Dev nD) : (slotM m j).view.dmaCredit = N := rfl
theorem credit_own (m : Memref sig .tc .vmem S8x256x1024 .bf16) (c : Dev nD) : (ownSlot m c).view.dmaCredit = N := rfl
theorem credit_peer (m : Memref sig .tc .vmem S8x256x1024 .bf16) (c : Dev nD) (r : Fin 7) : (peerSlot m c r).view.dmaCredit = N := rfl

/-- The signals: each hands a peer this device's two landing slots for it. -/
theorem signals_pass (c : Dev nD) :
    iprop(records A K ∗ owing c (owed c 0 0 0)
        ∗ bigSep Finset.univ fun r => iprop(dutyTok ER (barCell (peer c r)) 0 c ∗ barPay (peer c r) c))
      ⊢ wpc c (each (signalTo c) ⟨⟩) (fun _ => owing c (owed c 7 0 0)) := by
  refine (wpc_each (c := c) (g := fun _ a => a) (P := records A K) (I := fun n => owing c (owed c n 0 0))
    (A := fun r => iprop(dutyTok ER (barCell (peer c r)) 0 c ∗ barPay (peer c r) c)) (B := fun _ => iprop(emp)) (fun r a => ?_) PUnit.unit).trans
    (wp_mono _ _ _ fun a => by iintro ⟨-, H, -⟩; iexact H)
  refine (signal_step A K (peer_ne c r) (owed_signal c r 0 0) (sigDev_eq c r)).trans (wp_mono _ _ _ fun a' => ?_)
  iintro H
  isplitr; · ipureintro; rfl
  isplitl [H]; · iexact H
  iempintro

/-- The scattered blocks: computed, narrowed, sent. -/
theorem scatter_pass (c : Dev nD) :
    iprop(records A K ∗ (owing c (owed c 7 0 0) ∗ (held A c ∗ gPts c (gateBuf A c)))
        ∗ bigSep Finset.univ fun r => iprop(ownsAny c (slotM sndM (peer c r)) ∗ ownsAny (peer c r) (slotM rsM c)
            ∗ dutyTok ER (xcell c 0 (peer c r)) 0 (peer c r) ∗ dutyTok ER (xcell (peer c r) 1 c) 0 c))
      ⊢ wpc c (each (rsSend (axisWord c) c) ⟨⟩) (fun _ => iprop((owing c (owed c 7 7 0) ∗ (held A c ∗ gPts c (gateBuf A c)))
          ∗ bigSep Finset.univ fun r => cred (tallyAt (xcell c 0 (peer c r)) () N))) := by
  refine (wpc_each (c := c) (g := fun _ a => a) (P := records A K)
    (I := fun n => iprop(owing c (owed c 7 n 0) ∗ (held A c ∗ gPts c (gateBuf A c))))
    (A := fun r => iprop(ownsAny c (slotM sndM (peer c r)) ∗ ownsAny (peer c r) (slotM rsM c)
            ∗ dutyTok ER (xcell c 0 (peer c r)) 0 (peer c r) ∗ dutyTok ER (xcell (peer c r) 1 c) 0 c))
    (B := fun r => cred (tallyAt (xcell c 0 (peer c r)) () N)) (fun r a => ?_) PUnit.unit).trans
    (wp_mono _ _ _ fun a => by iintro ⟨-, HI, HB⟩; isplitl [HI] <;> iassumption)
  unfold rsSend
  iintro ⟨#HR, ⟨HO, Hin⟩, Hs, Hd, Ht₁, Ht₂⟩
  iapply (wpc_seq_val (R := iprop(records A K ∗ owing c (owed c 7 r.val 0) ∗ ownsAny c (slotM sndM (peer c r)) ∗ ownsAny (peer c r) (slotM rsM c)
      ∗ dutyTok ER (xcell c 0 (peer c r)) 0 (peer c r) ∗ dutyTok ER (xcell (peer c r) 1 c) 0 c))
    (chunk_step A c (peer c r) (off1_eq c r) (off2_eq c r) (off3_eq c r)) ?_)
  rotate_left
  · isplitl [Hin]; · iexact Hin
    isplitr; · iexact HR
    isplitl [HO]; · iexact HO
    isplitl [Hs]; · iexact Hs
    isplitl [Hd]; · iexact Hd
    isplitl [Ht₁] <;> iassumption
  iintro ⟨Hin, #HR, HO, Hs, Hd, Ht₁, Ht₂⟩
  iapply (wpc_seq (R := iprop((held A c ∗ gPts c (gateBuf A c)) ∗ records A K ∗ owing c (owed c 7 r.val 0) ∗ ownsAny (peer c r) (slotM rsM c)
      ∗ dutyTok ER (xcell c 0 (peer c r)) 0 (peer c r) ∗ dutyTok ER (xcell (peer c r) 1 c) 0 c))
    (load_slot_any (off4_eq c r)) fun _ => ?_)
  rotate_left
  · isplitl [Hs]; · iexact Hs
    isplitl [Hin]; · iexact Hin
    isplitr; · iexact HR
    isplitl [HO]; · iexact HO
    isplitl [Hd]; · iexact Hd
    isplitl [Ht₁] <;> iassumption
  iintro ⟨Hs, Hin, #HR, HO, Hd, Ht₁, Ht₂⟩
  iapply (wpc_seq (R := iprop((held A c ∗ gPts c (gateBuf A c)) ∗ records A K ∗ owing c (owed c 7 r.val 0) ∗ ownsAny (peer c r) (slotM rsM c)
      ∗ dutyTok ER (xcell c 0 (peer c r)) 0 (peer c r) ∗ dutyTok ER (xcell (peer c r) 1 c) 0 c))
    (store_slot (off4_eq c r)) fun _ => ?_)
  rotate_left
  · isplitl [Hs]; · iexact Hs
    isplitl [Hin]; · iexact Hin
    isplitr; · iexact HR
    isplitl [HO]; · iexact HO
    isplitl [Hd]; · iexact Hd
    isplitl [Ht₁] <;> iassumption
  iintro ⟨Hs, Hin, #HR, HO, Hd, Ht₁, Ht₂⟩
  iapply (((sep_mono_left (send_step A K (peer_ne c r) 0 1 (owed_scatter c r 7 0) (src := slotM sndM (peer c r)) (dst := slotM rsM c)
      (peerSlot_eq sndM c r) (ownSlot_eq rsM c) (credit_slot rsM c) (rsDev_eq c r) (peerSem_eq 0 c r) (ownSem_eq 1 c) (v := rsVal A c (peer c r))
      (BI.Entails.refl _) (BI.Entails.refl _))).trans (wp_frame_r (R := iprop(held A c ∗ gPts c (gateBuf A c))) _ _ _)).trans (wp_mono _ _ _ fun a' => by
    iintro ⟨⟨HO, HC⟩, Hin⟩
    isplitr; · ipureintro; rfl
    isplitr [HC]
    · isplitl [HO] <;> iassumption
    · iexact HC))
  isplitr [Hin]
  · isplitr; · iexact HR
    isplitl [HO]; · iexact HO
    isplitl [Hs]; · iexact Hs
    isplitl [Hd]; · iexact Hd
    isplitl [Ht₁] <;> iassumption
  · iexact Hin

/-- What the two kinds of landing cell hand over. -/
theorem pay_scattered (c j : Dev nD) : xferPay A 1 c j = owns (c : Thread nD τ) (slotM rsM j) fullShare (rsVal A j c) := rfl
theorem pay_finished (c j : Dev nD) : xferPay A 3 c j = owns (c : Thread nD τ) (slotM agM j) fullShare (agVal A j) := rfl

/-- The scattered blocks of the peers, as they land, added. -/
theorem collect_pass (c : Dev nD) :
    iprop((records A K ∗ levAts L lv) ∗ owing c (owed c 7 7 0)
        ∗ bigSep Finset.univ fun r => iprop(cred (tallyAt (xcell c 1 (peer c r)) () N) ∗ atPos ER (xcell c 1 (peer c r)) 0 ∅ 0))
      ⊢ wpc c (each (rsTake c) (chunkVal A c c)) (fun a => iprop(⌜a = accVal A c⌝ ∗ owing c (owed c 7 7 0)
          ∗ bigSep Finset.univ fun r => iprop(atPos ER (xcell c 1 (peer c r)) 1 ∅ 0 ∗ xferPay A 1 c (peer c r)))) := by
  refine wpc_each (c := c) (g := fun r acc => addf acc (extf .f32 (rsVal A (peer c r) c) bitsLt_bf16_f32)) (P := iprop(records A K ∗ levAts L lv))
    (I := fun _ => owing c (owed c 7 7 0))
    (A := fun r => iprop(cred (tallyAt (xcell c 1 (peer c r)) () N) ∗ atPos ER (xcell c 1 (peer c r)) 0 ∅ 0))
    (B := fun r => iprop(atPos ER (xcell c 1 (peer c r)) 1 ∅ 0 ∗ xferPay A 1 c (peer c r))) (fun r a => ?_) _
  unfold rsTake
  refine (sep_emp (PROP := sProp 𝕄)).2.trans (wpc_seq (wait_step A K (peer_ne c r) 1 (owed_above_scatter c (peer c r)) (peerSem_eq 1 c r) (credit_peer rsM c r)) fun _ => ?_)
  iintro ⟨⟨HO, Hat, Hp'⟩, -⟩
  ihave Hp := (Entails.of_eq (pay_scattered A c (peer c r))) $$ Hp'
  iapply (wpc_seq_val (R := iprop(owing c (owed c 7 7 0) ∗ atPos ER (xcell c 1 (peer c r)) 1 ∅ 0)) (load_slot (q := fullShare) (off4_eq c r) (rsVal A (peer c r) c)) ?_)
  rotate_left
  · isplitl [Hp]; · iexact Hp
    isplitl [HO] <;> iassumption
  rw [widen_slot]
  iintro ⟨Hp, HO, Hat⟩
  iapply wpc_pure
  isplitr; · ipureintro; rfl
  isplitl [HO]; · iexact HO
  isplitl [Hat]; · iexact Hat
  iapply (Entails.of_eq (pay_scattered A c (peer c r)).symm); iexact Hp

/-- The device's own block, kept and narrowed. -/
theorem keep_pass (c : Dev nD) :
    iprop(ownsAny c (rowsM oM c) ∗ ownsAny c (slotM sndM c))
      ⊢ wpc c (keepOwn c (accVal A c)) (fun _ => iprop(owns (c : Thread nD τ) (rowsM oM c) fullShare (accVal A c)
          ∗ owns (c : Thread nD τ) (slotM sndM c) fullShare (agVal A c))) := by
  unfold keepOwn
  refine wpc_seq (load_rows_any (off9_eq c)) fun _ => wpc_seq (store_rows (off9_eq c)) fun _ => ?_
  refine BI.sep_comm.trans (wpc_seq (load_slot_any (off12_eq c)) fun _ => ?_)
  refine ((sep_mono_left (store_slot (off12_eq c))).trans (wp_frame_r _ _ _)).trans (wp_mono _ _ _ fun _ => ?_)
  exact BI.sep_comm

/-- The finished block, lent to each peer's transfer. -/
theorem spread_pass (c : Dev nD) :
    iprop(records A K ∗ owing c (owed c 7 7 0)
        ∗ bigSep Finset.univ fun r => iprop(owns (c : Thread nD τ) (slotM sndM c) (lend (peer c r)) (agVal A c) ∗ ownsAny (peer c r) (slotM agM c)
            ∗ dutyTok ER (xcell c 2 (peer c r)) 0 (peer c r) ∗ dutyTok ER (xcell (peer c r) 3 c) 0 c))
      ⊢ wpc c (each (agSend c) ⟨⟩) (fun _ => iprop(owing c (owed c 7 7 7)
          ∗ bigSep Finset.univ fun r => cred (tallyAt (xcell c 2 (peer c r)) () N))) := by
  refine (wpc_each (c := c) (g := fun _ a => a) (P := records A K) (I := fun n => owing c (owed c 7 7 n))
    (A := fun r => iprop(owns (c : Thread nD τ) (slotM sndM c) (lend (peer c r)) (agVal A c) ∗ ownsAny (peer c r) (slotM agM c)
            ∗ dutyTok ER (xcell c 2 (peer c r)) 0 (peer c r) ∗ dutyTok ER (xcell (peer c r) 3 c) 0 c))
    (B := fun r => cred (tallyAt (xcell c 2 (peer c r)) () N)) (fun r a => ?_) PUnit.unit).trans
    (wp_mono _ _ _ fun a => by iintro ⟨-, HI, HB⟩; isplitl [HI] <;> iassumption)
  refine (send_step A K (peer_ne c r) 2 3 (owed_gather c r 7 7) (src := slotM sndM c) (dst := slotM agM c)
      (ownSlot_eq sndM c) (ownSlot_eq agM c) (credit_slot agM c) (agDev_eq c r) (peerSem_eq 2 c r) (ownSem_eq 3 c) (v := agVal A c)
      (BI.Entails.refl _) (BI.Entails.refl _)).trans (wp_mono _ _ _ fun a' => ?_)
  iintro ⟨HO, HC⟩
  isplitr; · ipureintro; rfl
  isplitl [HO] <;> iassumption

/-- The peers' finished blocks, as they land, widened into the result. -/
theorem fill_pass (c : Dev nD) :
    iprop((records A K ∗ levAts L lv) ∗ owing c (owed c 7 7 7)
        ∗ bigSep Finset.univ fun r => iprop(ownsAny c (rowsM oM (peer c r)) ∗ cred (tallyAt (xcell c 3 (peer c r)) () N) ∗ atPos ER (xcell c 3 (peer c r)) 0 ∅ 0))
      ⊢ wpc c (each (agTake c) ⟨⟩) (fun _ => iprop(owing c (owed c 7 7 7)
          ∗ bigSep Finset.univ fun r => iprop(owns (c : Thread nD τ) (rowsM oM (peer c r)) fullShare (outBlk A c (peer c r))
              ∗ atPos ER (xcell c 3 (peer c r)) 1 ∅ 0 ∗ xferPay A 3 c (peer c r)))) := by
  refine (wpc_each (c := c) (g := fun _ a => a) (P := iprop(records A K ∗ levAts L lv)) (I := fun _ => owing c (owed c 7 7 7))
    (A := fun r => iprop(ownsAny c (rowsM oM (peer c r)) ∗ cred (tallyAt (xcell c 3 (peer c r)) () N) ∗ atPos ER (xcell c 3 (peer c r)) 0 ∅ 0))
    (B := fun r => iprop(owns (c : Thread nD τ) (rowsM oM (peer c r)) fullShare (outBlk A c (peer c r))
              ∗ atPos ER (xcell c 3 (peer c r)) 1 ∅ 0 ∗ xferPay A 3 c (peer c r))) (fun r a => ?_) PUnit.unit).trans
    (wp_mono _ _ _ fun a => by iintro ⟨-, HI, HB⟩; isplitl [HI] <;> iassumption)
  unfold agTake
  iintro ⟨#HP, HO, Hrow, Hc, Hat⟩
  iapply (wpc_seq (R := ownsAny c (rowsM oM (peer c r)))
    (wait_step A K (peer_ne c r) 3 (owed_above_all c (.dma (dsem 3 (peer c r)))) (peerSem_eq 3 c r) (credit_peer agM c r)) fun _ => ?_)
  rotate_left
  · isplitr [Hrow]
    · isplitr; · iexact HP
      isplitl [HO]; · iexact HO
      isplitl [Hc] <;> iassumption
    · iexact Hrow
  iintro ⟨⟨HO, Hat, Hp'⟩, Hrow⟩
  ihave Hp := (Entails.of_eq (pay_finished A c (peer c r))) $$ Hp'
  iapply (wpc_seq_val (R := iprop(ownsAny c (rowsM oM (peer c r)) ∗ owing c (owed c 7 7 7) ∗ atPos ER (xcell c 3 (peer c r)) 1 ∅ 0))
    (load_slot (q := fullShare) (off4_eq c r) (agVal A (peer c r))) ?_)
  rotate_left
  · isplitl [Hp]; · iexact Hp
    isplitl [Hrow]; · iexact Hrow
    isplitl [HO] <;> iassumption
  rw [widen_slot]
  iintro ⟨Hp', Hrow, HO, Hat⟩
  ihave Hp := (Entails.of_eq (pay_finished A c (peer c r)).symm) $$ Hp'
  iapply (wpc_seq (R := iprop(xferPay A 3 c (peer c r) ∗ owing c (owed c 7 7 7) ∗ atPos ER (xcell c 3 (peer c r)) 1 ∅ 0))
    (load_rows_any (off1_eq c r)) fun _ => ?_)
  rotate_left
  · isplitl [Hrow]; · iexact Hrow
    isplitl [Hp]; · iexact Hp
    isplitl [HO] <;> iassumption
  iintro ⟨Hrow, Hp, HO, Hat⟩
  iapply (((sep_mono_left (store_rows (off1_eq c r))).trans (wp_frame_r (R := iprop(xferPay A 3 c (peer c r) ∗ owing c (owed c 7 7 7) ∗ atPos ER (xcell c 3 (peer c r)) 1 ∅ 0)) _ _ _)).trans
    (wp_mono _ _ _ fun a' => by
      iintro ⟨Hrow, Hp, HO, Hat⟩
      isplitr; · ipureintro; rfl
      isplitl [HO]; · iexact HO
      isplitl [Hrow]; · unfold outBlk; rw [if_neg (peer_ne c r)]; iexact Hrow
      isplitl [Hat] <;> iassumption))
  isplitl [Hrow]; · iexact Hrow
  isplitl [Hp]; · iexact Hp
  isplitl [HO] <;> iassumption

/-- A pass of waits, for transfers out of this device: what was lent is back. -/
theorem drain_pass (c : Dev nD) (k : Fin 4) (f : Fin 7 → PUnit → Pr F PUnit)
    (h : ∀ r a, iprop((records A K ∗ levAts L lv) ∗ owing c (owed c 7 7 7) ∗ cred (tallyAt (xcell c k (peer c r)) () N) ∗ atPos ER (xcell c k (peer c r)) 0 ∅ 0)
      ⊢ wpc c (f r a) (fun _ => iprop(owing c (owed c 7 7 7) ∗ atPos ER (xcell c k (peer c r)) 1 ∅ 0 ∗ xferPay A k c (peer c r)))) :
    iprop((records A K ∗ levAts L lv) ∗ owing c (owed c 7 7 7)
        ∗ bigSep Finset.univ fun r => iprop(cred (tallyAt (xcell c k (peer c r)) () N) ∗ atPos ER (xcell c k (peer c r)) 0 ∅ 0))
      ⊢ wpc c (each f ⟨⟩) (fun _ => iprop(owing c (owed c 7 7 7)
          ∗ bigSep Finset.univ fun r => iprop(atPos ER (xcell c k (peer c r)) 1 ∅ 0 ∗ xferPay A k c (peer c r)))) := by
  refine (wpc_each (c := c) (g := fun _ a => a) (P := iprop(records A K ∗ levAts L lv)) (I := fun _ => owing c (owed c 7 7 7))
    (A := fun r => iprop(cred (tallyAt (xcell c k (peer c r)) () N) ∗ atPos ER (xcell c k (peer c r)) 0 ∅ 0))
    (B := fun r => iprop(atPos ER (xcell c k (peer c r)) 1 ∅ 0 ∗ xferPay A k c (peer c r)))
    (fun r a => (h r a).trans (wp_mono _ _ _ fun a' => ?_)) PUnit.unit).trans
    (wp_mono _ _ _ fun a => by iintro ⟨-, HI, HB⟩; isplitl [HI] <;> iassumption)
  iintro ⟨HO, HB⟩
  isplitr; · ipureintro; rfl
  isplitl [HO] <;> iassumption

theorem rsDrain_step (c : Dev nD) (r : Fin 7) (a : PUnit.{1}) :
    iprop((records A K ∗ levAts L lv) ∗ owing c (owed c 7 7 7) ∗ cred (tallyAt (xcell c 0 (peer c r)) () N) ∗ atPos ER (xcell c 0 (peer c r)) 0 ∅ 0)
      ⊢ wpc c (rsDrain c r a) (fun _ => iprop(owing c (owed c 7 7 7) ∗ atPos ER (xcell c 0 (peer c r)) 1 ∅ 0 ∗ xferPay A 0 c (peer c r))) := by
  unfold rsDrain
  exact wait_step A K (peer_ne c r) 0 (owed_above_all c (.dma (dsem 0 (peer c r)))) (peerSem_eq 0 c r) (credit_peer sndM c r)
theorem agDrain_step (c : Dev nD) (r : Fin 7) (a : PUnit.{1}) :
    iprop((records A K ∗ levAts L lv) ∗ owing c (owed c 7 7 7) ∗ cred (tallyAt (xcell c 2 (peer c r)) () N) ∗ atPos ER (xcell c 2 (peer c r)) 0 ∅ 0)
      ⊢ wpc c (agDrain c r a) (fun _ => iprop(owing c (owed c 7 7 7) ∗ atPos ER (xcell c 2 (peer c r)) 1 ∅ 0 ∗ xferPay A 2 c (peer c r))) := by
  unfold agDrain
  exact wait_step A K (peer_ne c r) 2 (owed_above_all c (.dma (dsem 2 (peer c r)))) (peerSem_eq 2 c r) (credit_own sndM c)

end Cert.KernelIdeal

end
-- ==== Proof.Parts.lean ====
/-
  Buffers in parts: an exchange buffer is its eight slots, the result its eight blocks of rows, a slot lent out
  its eight shares; a device's cells by kind, and one kind by peer.
-/
module

public import proofs.«01_k».proof.Proof.Phases
public import Idealize.ShloMosaic.Lib.StableHlo.CollectiveRules

@[expose] public section

set_option synthInstance.maxSize 4096

noncomputable section

namespace Cert.KernelIdeal

open Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Every element type has an element. -/
instance elt_nonempty : ∀ e : EltTy, Nonempty (Elt F e)
  | .i1 => ⟨(0 : BitVec 1)⟩ | .i4 => ⟨(0 : BitVec 4)⟩ | .i8 => ⟨(0 : BitVec 8)⟩ | .i16 => ⟨(0 : BitVec 16)⟩
  | .i32 => ⟨(0 : BitVec 32)⟩ | .i64 => ⟨(0 : BitVec 64)⟩ | .fp8e4m3 => ⟨FloatOps.ofBits .fp8e4m3 0⟩ | .fp8e5m2 => ⟨FloatOps.ofBits .fp8e5m2 0⟩
  | .bf16 => ⟨FloatOps.ofBits .bf16 0⟩ | .f16 => ⟨FloatOps.ofBits .f16 0⟩ | .f32 => ⟨FloatOps.ofBits .f32 0⟩
theorem buf_nonempty (s : Shape) (e : EltTy) : Nonempty (s.Idx → Elt F e) := ⟨fun _ => Classical.choice (elt_nonempty e)⟩

/-! ## Slots -/

theorem slotR_emb0 (j : Dev nD) (x : S1x256x1024.Idx) : (((slotR j).emb x) 0).val = j.val := by
  show j.val + 1 * (x 0).val = _
  have : (x 0).val < 1 := (x 0).isLt
  omega
theorem slotR_emb1 (j : Dev nD) (x : S1x256x1024.Idx) : (((slotR j).emb x) 1).val = (x 1).val := by
  show 0 + 1 * (x 1).val = _; omega
theorem slotR_emb2 (j : Dev nD) (x : S1x256x1024.Idx) : (((slotR j).emb x) 2).val = (x 2).val := by
  show 0 + 1 * (x 2).val = _; omega

/-- Where an index of an exchange buffer lies in its slot. -/
def inSlot (i : S8x256x1024.Idx) : S1x256x1024.Idx := ix3 0 (i 1) (i 2)

theorem inSlot_emb (j : Dev nD) (x : S1x256x1024.Idx) : inSlot ((slotR j).emb x) = x := by
  funext a; apply Fin.ext
  match a with
  | ⟨0, _⟩ => show 0 = (x 0).val; have : (x 0).val < 1 := (x 0).isLt; omega
  | ⟨1, _⟩ => exact slotR_emb1 j x
  | ⟨2, _⟩ => exact slotR_emb2 j x
theorem emb_inSlot (i : S8x256x1024.Idx) : (slotR (i 0)).emb (inSlot i) = i := by
  funext a; apply Fin.ext
  match a with
  | ⟨0, _⟩ => exact slotR_emb0 _ _
  | ⟨1, _⟩ => exact slotR_emb1 _ _
  | ⟨2, _⟩ => exact slotR_emb2 _ _

theorem mem_slotR (j : Dev nD) (i : S8x256x1024.Idx) : i ∈ (slotR j).set ↔ i 0 = j := by
  rw [← Rect.map_emb_univ, Finset.mem_map]
  constructor
  · rintro ⟨x, -, rfl⟩; exact Fin.ext (slotR_emb0 j x)
  · rintro rfl; exact ⟨inSlot i, Finset.mem_univ _, emb_inSlot i⟩
theorem slots_disjoint (j j' : Dev nD) (h : j ≠ j') : Disjoint (slotR j).set (slotR j').set :=
  Finset.disjoint_left.mpr fun i hi hi' => h (((mem_slotR j i).mp hi).symm.trans ((mem_slotR j' i).mp hi'))
theorem slots_cover : (Finset.univ : Finset (Dev nD)).biUnion (fun j => (slotR j).set) = Finset.univ :=
  Finset.eq_univ_of_forall fun i => Finset.mem_biUnion.mpr ⟨i 0, Finset.mem_univ _, (mem_slotR _ i).mpr rfl⟩

/-- An exchange buffer is its slots. -/
theorem slots_of_whole (c : Dev nD) (m : Memref sig .tc .vmem S8x256x1024 .bf16) :
    (ownsAny (F := F) c m : sProp 𝕄) ⊢ bigSep Finset.univ fun j => ownsAny c (slotM m j) := by
  unfold ownsAny
  iintro ⟨%X, H⟩
  iapply ((owns_rects (c : Thread nD τ) m fullShare slotR (fun _ _ => rfl) slots_disjoint slots_cover X).trans
    (bigSep_mono fun j _ => (slot_of_slice _).trans (by iintro H; iexists _; iexact H))) $$ H
theorem whole_of_slots (c : Dev nD) (m : Memref sig .tc .vmem S8x256x1024 .bf16) :
    (bigSep Finset.univ fun j => ownsAny (F := F) c (slotM m j) : sProp 𝕄) ⊢ ownsAny c m := by
  unfold ownsAny
  iintro H
  have hne : ∀ _ : Dev nD, Nonempty (S256x1024.Idx → Elt F .bf16) := fun _ => buf_nonempty _ _
  ihave H' := (@bigSep_exists_pi _ _ _ _ (fun _ : Dev nD => S256x1024.Idx → Elt F .bf16) hne Finset.univ fun (j : Dev nD) (X : S256x1024.Idx → Elt F .bf16) => (owns (c : Thread nD τ) (slotM m j) fullShare X : sProp 𝕄)) $$ H
  icases H' with ⟨%Y, H⟩
  have join : (bigSep Finset.univ fun j : Dev nD => (owns (c : Thread nD τ) (slotM m j) fullShare (Y j) : sProp 𝕄))
      ⊢ owns (c : Thread nD τ) m fullShare (fun i => shapeCast S1x256x1024 (Y (i 0)) shapeCasts_S256x1024_S1x256x1024 (inSlot i)) := by
    refine (bigSep_mono fun j _ => (slice_of_slot (Y j)).trans (Entails.of_eq (congrArg (owns (c : Thread nD τ) (m.slice (slotR j) (fun _ => rfl)) fullShare)
      (funext fun x => ?_)))).trans (owns_of_rects (c : Thread nD τ) m fullShare slotR (fun _ _ => rfl) slots_disjoint slots_cover _)
    show _ = shapeCast S1x256x1024 (Y (((slotR j).emb x) 0)) shapeCasts_S256x1024_S1x256x1024 (inSlot ((slotR j).emb x))
    rw [inSlot_emb, show ((slotR j).emb x) 0 = j from Fin.ext (slotR_emb0 j x)]
  iexists _
  iapply join; iexact H

/-- What a share's halves make together, its leaves make together. -/
theorem leaves_of_halves (Φ : PosShare TreeShare → sProp 𝕄) (h : ∀ q, Φ q = iprop(Φ q.left ∗ Φ q.right)) (n : ℕ) :
    ∀ q, Φ q = bigSep Finset.univ fun i : Fin (2 ^ n) => Φ (ShareLeaves.leaf n q i) := by
  induction n with
  | zero => exact fun q => (bigSep_univ_of_subsingleton (0 : Fin 1) (Φ := fun i : Fin (2 ^ 0) => Φ (ShareLeaves.leaf 0 q i))).symm
  | succ n ih =>
    intro q
    rw [bigSep_univ_equiv (ShareLeaves.sumEquiv n) fun i => Φ (ShareLeaves.leaf (n + 1) q i), bigSep_univ_sum, h q, ih q.left, ih q.right]
    exact congrArg₂ (fun P Q : sProp 𝕄 => iprop(P ∗ Q)) (bigSep_congr fun i _ => by rw [ShareLeaves.leaf_inl]) (bigSep_congr fun i _ => by rw [ShareLeaves.leaf_inr])

/-- A slot held is its eight shares, one for each device. -/
theorem slot_shares (c : Dev nD) (m : Memref sig .tc .vmem S256x1024 .bf16) (X : Vec F S256x1024 .bf16) :
    (owns (c : Thread nD τ) m fullShare X : sProp 𝕄) = bigSep Finset.univ fun j : Dev nD => owns (c : Thread nD τ) m (lend j) X :=
  leaves_of_halves (fun q => owns (c : Thread nD τ) m q X)
    (fun q => equiv_iff.mp ⟨(owns_share (c : Thread nD τ) m (PosShare.mem_left_op_right q) X).1, (owns_share (c : Thread nD τ) m (PosShare.mem_left_op_right q) X).2⟩) 3 fullShare

/-! ## Blocks of rows -/

/-- The block a row lies in, and where in it. -/
def blkOf (i : S2048x1024.Idx) : Dev nD := ⟨(i 0).val / 256, Nat.div_lt_of_lt_mul (show (i 0).val < 256 * 8 from (i 0).isLt)⟩
def inBlk (i : S2048x1024.Idx) : S256x1024.Idx := ix2 ⟨(i 0).val % 256, Nat.mod_lt _ (by decide)⟩ (i 1)

theorem emb_inBlk (i : S2048x1024.Idx) : (rowsR (blkOf i)).emb (inBlk i) = i := by
  funext a; apply Fin.ext
  match a with
  | ⟨0, _⟩ => refine (rowsR_emb_val0 _ _).trans ?_; exact Nat.div_add_mod _ _
  | ⟨1, _⟩ => exact rowsR_emb_val1 _ _
theorem mem_rowsR (j : Dev nD) (i : S2048x1024.Idx) : i ∈ (rowsR j).set ↔ blkOf i = j := by
  rw [← Rect.map_emb_univ, Finset.mem_map]
  constructor
  · rintro ⟨x, -, rfl⟩
    apply Fin.ext
    have h0 := rowsR_emb_val0 j x
    have hx : (x 0).val < 256 := (x 0).isLt
    show (((rowsR j).emb x) 0).val / 256 = j.val
    omega
  · rintro rfl; exact ⟨inBlk i, Finset.mem_univ _, emb_inBlk i⟩
theorem rows_disjoint (j j' : Dev nD) (h : j ≠ j') : Disjoint (rowsR j).set (rowsR j').set :=
  Finset.disjoint_left.mpr fun i hi hi' => h (((mem_rowsR j i).mp hi).symm.trans ((mem_rowsR j' i).mp hi'))
theorem rows_cover : (Finset.univ : Finset (Dev nD)).biUnion (fun j => (rowsR j).set) = Finset.univ :=
  Finset.eq_univ_of_forall fun i => Finset.mem_biUnion.mpr ⟨blkOf i, Finset.mem_univ _, (mem_rowsR _ i).mpr rfl⟩

variable (A : Inp F) (K : Dev nD × CK → ℕ)

/-- The result's buffer is its blocks of rows, -/
theorem rows_of_whole (c : Dev nD) :
    (ownsAny (F := F) c oM : sProp 𝕄) ⊢ bigSep Finset.univ fun j => ownsAny c (rowsM oM j) := by
  unfold ownsAny
  iintro ⟨%X, H⟩
  iapply ((owns_rects (c : Thread nD τ) oM fullShare rowsR (fun _ _ => rfl) rows_disjoint rows_cover X).trans
    (bigSep_mono fun j _ => show (owns (c : Thread nD τ) (oM.slice (rowsR j) (fun _ => rfl)) fullShare (fun x => X ((rowsR j).emb x)) : sProp 𝕄) ⊢ _ from by
      iintro H; iexists _; iexact H)) $$ H
/-- and its blocks at their values are the result. -/
theorem whole_of_rows (c : Dev nD) :
    (bigSep Finset.univ fun j => owns (c : Thread nD τ) (rowsM oM j) fullShare (outBlk A c j) : sProp 𝕄)
      ⊢ owns (c : Thread nD τ) oM fullShare (outVal A c) :=
  (bigSep_mono fun j _ => Entails.of_eq (congrArg (owns (c : Thread nD τ) (rowsM oM j) fullShare) (outVal_rows A c j).symm)).trans
    (owns_of_rects (c : Thread nD τ) oM fullShare rowsR (fun _ _ => rfl) rows_disjoint rows_cover _)

/-! ## Cells -/

/-- A summand for every cell of a device: the barrier's, and four for every device. -/
theorem bigSep_cells (Φ : CK → sProp 𝕄) :
    bigSep Finset.univ Φ = iprop(Φ (.inl ()) ∗ (bigSep Finset.univ fun j => Φ (.inr (0, j))) ∗ (bigSep Finset.univ fun j => Φ (.inr (1, j)))
      ∗ (bigSep Finset.univ fun j => Φ (.inr (2, j))) ∗ bigSep Finset.univ fun j => Φ (.inr (3, j))) := by
  rw [bigSep_univ_sum, bigSep_univ_of_subsingleton (), bigSep_univ_prod, bigSep_univ_eq_bigSepL [0, 1, 2, 3] (by decide) (by decide)]
  rfl

/-- A device's own cell of each kind, never used, and its cells for its peers, each used once, closed. -/
theorem close_kind (c : Dev nD) (k : Fin 4) :
    iprop(records A K ∗ atPos ER (xcell c k c) 0 ∅ 0 ∗ bigSep Finset.univ fun r => atPos ER (xcell c k (peer c r)) 1 ∅ 0)
      ⊢ (|={Set.univ}=> bigSep Finset.univ fun j => semVal (xcell c k j) 0 : sProp 𝕄) := by
  rw [bigSep_peers c fun j => (semVal (xcell c k j) 0 : sProp 𝕄)]
  have hp : iprop(records A K ∗ bigSep Finset.univ fun r => atPos ER (xcell c k (peer c r)) 1 ∅ 0)
      ⊢ (|={Set.univ}=> bigSep Finset.univ fun r => semVal (xcell c k (peer c r)) 0 : sProp 𝕄) := by
    refine (sep_mono_left (BI.bigSep_of_persistent (Finset.univ : Finset (Fin 7)) (records A K))).trans ?_
    rw [← bigSep_sep']
    refine (bigSep_mono fun r _ => ?_).trans (bigSep_fupd Finset.univ _)
    refine (sep_mono_left (inv_at A K (c, .inr (k, peer c r)))).trans ?_
    exact Rounds.cell_close ER (Rd A) (Set.mem_univ _) (fun h => h) (R := 1) (duties_later A _)
  iintro ⟨#HR, H0, Hp⟩
  imod (Rounds.cell_close ER (Rd A) (Set.mem_univ (K (c, .inr (k, c)))) (fun h => h) (R := 0) (duties_own A c k)) $$ [H0] with Hz
  · isplitr; · iapply (inv_at A K (c, .inr (k, c))); iexact HR
    iexact H0
  imod hp $$ [Hp] with Hzp
  · isplitr; · iexact HR
    iexact Hp
  imodintro
  isplitl [Hz] <;> iassumption

end Cert.KernelIdeal

end
-- ==== Proof.Body.lean ====
/-
  The body on one device, from what the launch gives it to what it leaves: the passes in order, the cells
  closed and the buffers put back together.
-/
module

public import proofs.«01_k».proof.Proof.Parts

@[expose] public section

set_option synthInstance.maxSize 4096

noncomputable section

namespace Cert.KernelIdeal

open Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A step, what remains in hand untouched -/

theorem wpc_step {β : Type} {c : Dev nD} {p : Pr F PUnit} {k : PUnit → Pr F β} {P Q : sProp 𝕄} {Q' : β → sProp 𝕄}
    (hp : P ⊢ wpc c p (fun _ => Q)) : P ⊢ iprop((Q -∗ wpc c (k ⟨⟩) Q') -∗ wpc c (p >>= k) Q') := by
  iintro HP Hk
  iapply (wpc_seq hp (R := iprop(Q -∗ wpc c (k ⟨⟩) Q')) fun _ => by iintro ⟨HQ, Hk⟩; iapply Hk; iexact HQ)
  isplitl [HP] <;> iassumption
theorem wpc_step_val {α β : Type} {c : Dev nD} {p : Pr F α} {k : α → Pr F β} {v : α} {P Q : sProp 𝕄} {Q' : β → sProp 𝕄}
    (hp : P ⊢ wpc c p (fun a => iprop(⌜a = v⌝ ∗ Q))) : P ⊢ iprop((Q -∗ wpc c (k v) Q') -∗ wpc c (p >>= k) Q') := by
  iintro HP Hk
  iapply (wpc_seq_val hp (R := iprop(Q -∗ wpc c (k v) Q')) (by iintro ⟨HQ, Hk⟩; iapply Hk; iexact HQ))
  isplitl [HP] <;> iassumption
theorem wpc_last {c : Dev nD} {p : Pr F PUnit} {P Q : sProp 𝕄} {Q' : PUnit → sProp 𝕄}
    (hp : P ⊢ wpc c p (fun _ => Q)) : P ⊢ iprop((Q -∗ |={Set.univ}=> Q' ⟨⟩) -∗ wpc c p Q') := by
  iintro HP Hk
  iapply (wp_fupd frame (wpE (defs₀ (F := F)) 𝒱₀ (c : Thread nD τ) none) (E := Set.univ) p Q')
  iapply ((sep_mono_left hp).trans ((wp_frame_r _ _ _).trans (wp_mono _ _ _ fun a => show iprop(Q ∗ (Q -∗ |={Set.univ}=> Q' ⟨⟩)) ⊢ _ from by
    iintro ⟨HQ, Hk⟩; iapply Hk; iexact HQ)))
  isplitl [HP] <;> iassumption

variable (A : Inp F) (K : Dev nD × CK → ℕ)

/-! ## What a device starts from -/

/-- Its place in every one of its cells. -/
def places (c : Dev nD) : sProp 𝕄 := bigSep Finset.univ fun k : CK => atPos ER (kcell (c, k)) 0 ∅ 0
/-- The tokens of the payments it makes (those to itself are never made). -/
def payToks (c : Dev nD) : sProp 𝕄 :=
  iprop((bigSep Finset.univ fun d => dutyTok ER (barCell d) 0 c)
    ∗ (bigSep Finset.univ fun d => dutyTok ER (xcell c 0 d) 0 d) ∗ (bigSep Finset.univ fun d => dutyTok ER (xcell d 1 c) 0 c)
    ∗ (bigSep Finset.univ fun d => dutyTok ER (xcell c 2 d) 0 d) ∗ (bigSep Finset.univ fun d => dutyTok ER (xcell d 3 c) 0 c))
/-- The units its waits will take. -/
def credits (c : Dev nD) : sProp 𝕄 :=
  iprop(cred (tallyAt (barCell c) () 7) ∗ (bigSep Finset.univ fun r => cred (tallyAt (xcell c 1 (peer c r)) () N))
    ∗ bigSep Finset.univ fun r => cred (tallyAt (xcell c 3 (peer c r)) () N))
/-- The scratch buffers, at any contents. -/
def scratch (c : Dev nD) : sProp 𝕄 := iprop((∃ f, gPts c f) ∗ ownsAny (F := F) c sndM ∗ ownsAny (F := F) c rsM ∗ ownsAny (F := F) c agM)

/-- The scattered blocks read are slots of the send buffer again; -/
theorem paid_snd (c : Dev nD) : (bigSep Finset.univ fun r => xferPay A 0 c (peer c r)) ⊢ (bigSep Finset.univ fun r => ownsAny c (slotM sndM (peer c r)) : sProp 𝕄) :=
  bigSep_mono fun r _ => show xferPay A 0 c (peer c r) ⊢ ownsAny c (slotM sndM (peer c r)) from by
    unfold ownsAny xferPay; iintro H; iexists _; iexact H
/-- landed, of one landing buffer; -/
theorem paid_rs (c : Dev nD) : (bigSep Finset.univ fun r => xferPay A 1 c (peer c r)) ⊢ (bigSep Finset.univ fun r => ownsAny c (slotM rsM (peer c r)) : sProp 𝕄) :=
  bigSep_mono fun r _ => show xferPay A 1 c (peer c r) ⊢ ownsAny c (slotM rsM (peer c r)) from by
    unfold ownsAny xferPay; iintro H; iexists _; iexact H
/-- finished, of the other; -/
theorem paid_ag (c : Dev nD) : (bigSep Finset.univ fun r => xferPay A 3 c (peer c r)) ⊢ (bigSep Finset.univ fun r => ownsAny c (slotM agM (peer c r)) : sProp 𝕄) :=
  bigSep_mono fun r _ => show xferPay A 3 c (peer c r) ⊢ ownsAny c (slotM agM (peer c r)) from by
    unfold ownsAny xferPay; iintro H; iexists _; iexact H
/-- what was lent is the finished block's shares. -/
theorem paid_shares (c : Dev nD) : (bigSep Finset.univ fun r => xferPay A 2 c (peer c r))
    ⊢ (bigSep Finset.univ fun r => owns (c : Thread nD τ) (slotM sndM c) (lend (peer c r)) (agVal A c) : sProp 𝕄) :=
  bigSep_mono fun r _ => BI.Entails.refl _

set_option maxHeartbeats 1600000 in
/-- The body. -/
theorem rest_run (c : Dev nD) :
    iprop((records A K ∗ levAts L lv) ∗ owing c (owed c 0 0 0) ∗ places c ∗ payToks c ∗ credits c ∗ scratch c ∗ held A c ∗ ownsAny c oM)
      ⊢ wpc c (rest c) (fun _ => iprop(owing c 0 ∗ (bigSep Finset.univ fun k : CK => semVal (kcell (c, k)) 0) ∗ scratch c ∗ held A c
          ∗ owns (c : Thread nD τ) oM fullShare (outVal A c))) := by
  unfold places payToks credits scratch rest
  rw [bigSep_cells fun k : CK => (atPos ER (kcell (c, k)) 0 ∅ 0 : sProp 𝕄)]
  iintro ⟨#HP, HO, ⟨HaB, Ha0, Ha1, Ha2, Ha3⟩, ⟨HtB, Ht0, Ht1, Ht2, Ht3⟩, ⟨HcB, Hc1, Hc3⟩, ⟨Hg, Hsnd, Hrs, Hag⟩, Hin, Hout⟩
  icases HP with ⟨#HR, #Hlev⟩
  -- every buffer in its parts, every family as the device's own and its peers'
  ihave Ha0 := (Entails.of_eq (bigSep_peers c fun j => (atPos ER (xcell c 0 j) 0 ∅ 0 : sProp 𝕄))) $$ Ha0
  ihave Ha1 := (Entails.of_eq (bigSep_peers c fun j => (atPos ER (xcell c 1 j) 0 ∅ 0 : sProp 𝕄))) $$ Ha1
  ihave Ha2 := (Entails.of_eq (bigSep_peers c fun j => (atPos ER (xcell c 2 j) 0 ∅ 0 : sProp 𝕄))) $$ Ha2
  ihave Ha3 := (Entails.of_eq (bigSep_peers c fun j => (atPos ER (xcell c 3 j) 0 ∅ 0 : sProp 𝕄))) $$ Ha3
  ihave HtB := (Entails.of_eq (bigSep_peers c fun d => (dutyTok ER (barCell d) 0 c : sProp 𝕄))) $$ HtB
  ihave Ht0 := (Entails.of_eq (bigSep_peers c fun d => (dutyTok ER (xcell c 0 d) 0 d : sProp 𝕄))) $$ Ht0
  ihave Ht1 := (Entails.of_eq (bigSep_peers c fun d => (dutyTok ER (xcell d 1 c) 0 c : sProp 𝕄))) $$ Ht1
  ihave Ht2 := (Entails.of_eq (bigSep_peers c fun d => (dutyTok ER (xcell c 2 d) 0 d : sProp 𝕄))) $$ Ht2
  ihave Ht3 := (Entails.of_eq (bigSep_peers c fun d => (dutyTok ER (xcell d 3 c) 0 c : sProp 𝕄))) $$ Ht3
  ihave Hsnd := ((slots_of_whole c sndM).trans (Entails.of_eq (bigSep_peers c fun j => (ownsAny c (slotM sndM j) : sProp 𝕄)))) $$ Hsnd
  ihave Hrs := ((slots_of_whole c rsM).trans (Entails.of_eq (bigSep_peers c fun j => (ownsAny c (slotM rsM j) : sProp 𝕄)))) $$ Hrs
  ihave Hag := ((slots_of_whole c agM).trans (Entails.of_eq (bigSep_peers c fun j => (ownsAny c (slotM agM j) : sProp 𝕄)))) $$ Hag
  ihave Hout := ((rows_of_whole c).trans (Entails.of_eq (bigSep_peers c fun j => (ownsAny c (rowsM oM j) : sProp 𝕄)))) $$ Hout
  icases Ha0 with ⟨Ha0c, Ha0⟩
  icases Ha1 with ⟨Ha1c, Ha1⟩
  icases Ha2 with ⟨Ha2c, Ha2⟩
  icases Ha3 with ⟨Ha3c, Ha3⟩
  icases HtB with ⟨-, HtB⟩
  icases Ht0 with ⟨-, Ht0⟩
  icases Ht1 with ⟨-, Ht1⟩
  icases Ht2 with ⟨-, Ht2⟩
  icases Ht3 with ⟨-, Ht3⟩
  icases Hsnd with ⟨Hsc, Hsnd⟩
  icases Hrs with ⟨Hrc, Hrs⟩
  icases Hag with ⟨Hgc, Hag⟩
  icases Hout with ⟨Hoc, Hout⟩
  -- the signals
  iapply (wpc_step (signals_pass A K c)) $$ [HO HtB Hrs Hag]
  · isplitr; · iexact HR
    isplitl [HO]; · iexact HO
    unfold barPay
    rw [bigSep_sep', bigSep_sep']
    isplitl [HtB]; · iexact HtB
    isplitl [Hrs] <;> iassumption
  iintro HO
  -- the wait for them
  iapply (wpc_step (bar_step A K c (owed_above_bar c))) $$ [HO HcB HaB]
  · isplitr
    · isplitr; · iexact HR
      iexact Hlev
    isplitl [HO]; · iexact HO
    isplitl [HcB] <;> iassumption
  rw [bigSep_others c (barPay c)]
  unfold barPay
  rw [bigSep_sep']
  iintro ⟨HO, HaB, Hrs, Hag⟩
  -- the gates
  iapply (wpc_step (gates_step A c)) $$ [Hin Hg]
  · isplitl [Hin] <;> iassumption
  iintro ⟨Hin, Hg⟩
  -- the scattered blocks
  iapply (wpc_step (scatter_pass A K c)) $$ [HO Hin Hg Hsnd Hrs Ht0 Ht1]
  · isplitr; · iexact HR
    isplitl [HO Hin Hg]
    · isplitl [HO]; · iexact HO
      isplitl [Hin] <;> iassumption
    rw [bigSep_sep', bigSep_sep', bigSep_sep']
    isplitl [Hsnd]; · iexact Hsnd
    isplitl [Hrs]; · iexact Hrs
    isplitl [Ht0] <;> iassumption
  iintro ⟨⟨HO, Hin, Hg⟩, Hc0⟩
  -- the device's own
  iapply (wpc_step_val (chunk_step A c c (off9_eq c) (off10_eq c) (off11_eq c))) $$ [Hin Hg]
  · isplitl [Hin] <;> iassumption
  iintro ⟨Hin, Hg⟩
  -- the peers' scattered blocks
  iapply (wpc_step_val (collect_pass A K c)) $$ [HO Hc1 Ha1]
  · isplitr
    · isplitr; · iexact HR
      iexact Hlev
    isplitl [HO]; · iexact HO
    rw [bigSep_sep']
    isplitl [Hc1] <;> iassumption
  rw [bigSep_sep']
  iintro ⟨HO, Ha1, Hrs⟩
  iapply (wpc_step (keep_pass A c)) $$ [Hoc Hsc]
  · isplitl [Hoc] <;> iassumption
  iintro ⟨Hoc, Hsc⟩
  -- the finished block, lent to each peer's transfer
  ihave Hsc := ((Entails.of_eq (slot_shares c (slotM sndM c) (agVal A c))).trans
    (Entails.of_eq (bigSep_peers c fun j => (owns (c : Thread nD τ) (slotM sndM c) (lend j) (agVal A c) : sProp 𝕄)))) $$ Hsc
  icases Hsc with ⟨Hscc, Hsc⟩
  iapply (wpc_step (spread_pass A K c)) $$ [HO Hsc Hag Ht2 Ht3]
  · isplitr; · iexact HR
    isplitl [HO]; · iexact HO
    rw [bigSep_sep', bigSep_sep', bigSep_sep']
    isplitl [Hsc]; · iexact Hsc
    isplitl [Hag]; · iexact Hag
    isplitl [Ht2] <;> iassumption
  iintro ⟨HO, Hc2⟩
  -- the peers' finished blocks
  iapply (wpc_step (fill_pass A K c)) $$ [HO Hout Hc3 Ha3]
  · isplitr
    · isplitr; · iexact HR
      iexact Hlev
    isplitl [HO]; · iexact HO
    rw [bigSep_sep', bigSep_sep']
    isplitl [Hout]; · iexact Hout
    isplitl [Hc3] <;> iassumption
  rw [bigSep_sep', bigSep_sep']
  iintro ⟨HO, Hout, Ha3, Hag⟩
  -- the device's transfers have read what they carry
  iapply (wpc_step (drain_pass A K c 0 (rsDrain c) (rsDrain_step A K c))) $$ [HO Hc0 Ha0]
  · isplitr
    · isplitr; · iexact HR
      iexact Hlev
    isplitl [HO]; · iexact HO
    rw [bigSep_sep']
    isplitl [Hc0] <;> iassumption
  rw [bigSep_sep']
  iintro ⟨HO, Ha0, Hsnd⟩
  iapply (wpc_last (drain_pass A K c 2 (agDrain c) (agDrain_step A K c))) $$ [HO Hc2 Ha2]
  · isplitr
    · isplitr; · iexact HR
      iexact Hlev
    isplitl [HO]; · iexact HO
    rw [bigSep_sep']
    isplitl [Hc2] <;> iassumption
  rw [bigSep_sep']
  iintro ⟨HO, Ha2, Hsc⟩
  -- the cells
  imod (Rounds.cell_close ER (Rd A) (Set.mem_univ (K (c, .inl ()))) (fun h => h) (R := 1) (duties_later A (barCell c))) $$ [HaB] with HzB
  · isplitr; · iapply (inv_at A K (c, .inl ())); iexact HR
    iexact HaB
  imod (close_kind A K c 0) $$ [Ha0 Ha0c] with Hz0
  · isplitr; · iexact HR
    isplitl [Ha0c] <;> iassumption
  imod (close_kind A K c 1) $$ [Ha1 Ha1c] with Hz1
  · isplitr; · iexact HR
    isplitl [Ha1c] <;> iassumption
  imod (close_kind A K c 2) $$ [Ha2 Ha2c] with Hz2
  · isplitr; · iexact HR
    isplitl [Ha2c] <;> iassumption
  imod (close_kind A K c 3) $$ [Ha3 Ha3c] with Hz3
  · isplitr; · iexact HR
    isplitl [Ha3c] <;> iassumption
  imodintro
  isplitl [HO]; · rw [← owed_none c]; iexact HO
  rw [bigSep_cells fun k : CK => (semVal (kcell (c, k)) 0 : sProp 𝕄)]
  isplitl [HzB Hz0 Hz1 Hz2 Hz3]
  · isplitl [HzB]; · iexact HzB
    isplitl [Hz0]; · iexact Hz0
    isplitl [Hz1]; · iexact Hz1
    isplitl [Hz2] <;> iassumption
  -- the buffers
  isplitl [Hg Hsnd Hscc Hsc Hrc Hrs Hgc Hag]
  · isplitl [Hg]; · iexists _; iexact Hg
    isplitl [Hsnd Hscc Hsc]
    · iapply ((Entails.of_eq (bigSep_peers c fun j => (ownsAny c (slotM sndM j) : sProp 𝕄)).symm).trans (whole_of_slots c sndM))
      isplitl [Hscc Hsc]
      · unfold ownsAny
        iexists (agVal A c)
        iapply ((Entails.of_eq (bigSep_peers c fun j => (owns (c : Thread nD τ) (slotM sndM c) (lend j) (agVal A c) : sProp 𝕄)).symm).trans
          (Entails.of_eq (slot_shares c (slotM sndM c) (agVal A c)).symm))
        isplitl [Hscc]; · iexact Hscc
        iapply (paid_shares A c) $$ Hsc
      · iapply (paid_snd A c) $$ Hsnd
    isplitl [Hrc Hrs]
    · iapply ((Entails.of_eq (bigSep_peers c fun j => (ownsAny c (slotM rsM j) : sProp 𝕄)).symm).trans (whole_of_slots c rsM))
      isplitl [Hrc]; · iexact Hrc
      iapply (paid_rs A c) $$ Hrs
    · iapply ((Entails.of_eq (bigSep_peers c fun j => (ownsAny c (slotM agM j) : sProp 𝕄)).symm).trans (whole_of_slots c agM))
      isplitl [Hgc]; · iexact Hgc
      iapply (paid_ag A c) $$ Hag
  isplitl [Hin]; · iexact Hin
  iapply ((Entails.of_eq (bigSep_peers c fun j => (owns (c : Thread nD τ) (rowsM oM j) fullShare (outBlk A c j) : sProp 𝕄)).symm).trans (whole_of_rows A c))
  isplitl [Hoc]
  · unfold outBlk; rw [if_pos rfl]; iexact Hoc
  · iexact Hout

end Cert.KernelIdeal

end
-- ==== Proof.Ghost.lean ====
/-
  What the launch deals: the cells allocated for all devices at once, the tokens of every duty handed from the
  device whose cell it is to the device that pays it, and the units each device may wait for.
-/
module

public import proofs.«01_k».proof.Proof.Body

@[expose] public section

set_option synthInstance.maxSize 4096

noncomputable section

namespace Cert.KernelIdeal

open Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Inp F)

/-! ## Cells and tokens -/

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]
def allCells : Finset (GSem nD τ sig) := Finset.univ.map ⟨kcell, kcell_injective⟩

/-- The duties of a device's cells: its barrier's, one for each device; a transfer cell's, its peer's. -/
abbrev TK : Type := Dev nD ⊕ (Fin 4 × Dev nD)
def tokOf : Dev nD × TK → GSem nD τ sig × ℕ × Dev nD
  | (c, .inl d) => (barCell c, 0, d)
  | (c, .inr (k, j)) => (xcell c k j, 0, j)
/-- The cell of a duty's token. -/
def tokKey : Dev nD × TK → Dev nD × CK
  | (c, .inl _) => (c, .inl ())
  | (c, .inr x) => (c, .inr x)
theorem tokOf_cell : ∀ x, (tokOf x).1 = kcell (tokKey x)
  | (_, .inl _) => rfl
  | (_, .inr _) => rfl
theorem tokOf_injective : Function.Injective tokOf := by
  intro x y h
  have h1 : tokKey x = tokKey y := kcell_injective (by rw [← tokOf_cell, ← tokOf_cell, h])
  have h2 : (tokOf x).2.2 = (tokOf y).2.2 := by rw [h]
  rcases x with ⟨c, d | ⟨k, j⟩⟩ <;> rcases y with ⟨c', d' | ⟨k', j'⟩⟩
  · have hc : c = c' := congrArg Prod.fst h1
    have hd : d = d' := h2
    rw [hc, hd]
  · have := congrArg Prod.snd h1; cases this
  · have := congrArg Prod.snd h1; cases this
  · have hc : c = c' := congrArg Prod.fst h1
    have hk : (Sum.inr (k, j) : CK) = .inr (k', j') := congrArg Prod.snd h1
    rw [hc, Sum.inr.inj hk]
def allToks : Finset (GSem nD τ sig × ℕ × Dev nD) := Finset.univ.map ⟨tokOf, tokOf_injective⟩

/-- The tokens of a device's own cells. -/
def toks (c : Dev nD) : sProp 𝕄 :=
  iprop((bigSep Finset.univ fun d => dutyTok ER (barCell c) 0 d)
    ∗ (bigSep Finset.univ fun d => dutyTok ER (xcell c 0 d) 0 d) ∗ (bigSep Finset.univ fun d => dutyTok ER (xcell c 1 d) 0 d)
    ∗ (bigSep Finset.univ fun d => dutyTok ER (xcell c 2 d) 0 d) ∗ (bigSep Finset.univ fun d => dutyTok ER (xcell c 3 d) 0 d))

theorem bigSep_toks (c : Dev nD) :
    (bigSep Finset.univ fun t : TK => (dutyTok ER (tokOf (c, t)).1 (tokOf (c, t)).2.1 (tokOf (c, t)).2.2 : sProp 𝕄)) = toks c := by
  rw [bigSep_univ_sum, bigSep_univ_prod, bigSep_univ_eq_bigSepL ([0, 1, 2, 3] : List (Fin 4)) (by decide) (by decide)]
  rfl

/-- A summand for every pair of devices, summed in either order. -/
theorem bigSep_swap (Φ : Dev nD → Dev nD → sProp 𝕄) :
    (bigSep Finset.univ fun c => bigSep Finset.univ fun d => Φ c d) = bigSep Finset.univ fun d => bigSep Finset.univ fun c => Φ c d := by
  rw [← bigSep_univ_prod (fun x : Dev nD × Dev nD => Φ x.1 x.2), bigSep_univ_equiv (Equiv.prodComm (Dev nD) (Dev nD)),
    bigSep_univ_prod (fun x : Dev nD × Dev nD => Φ ((Equiv.prodComm (Dev nD) (Dev nD)) x).1 ((Equiv.prodComm (Dev nD) (Dev nD)) x).2)]
  rfl

/-- Each token goes to the device that pays with it. -/
theorem toks_dealt : (bigSep Finset.univ fun c : Dev nD => (toks c : sProp 𝕄)) ⊢ bigSep Finset.univ fun c : Dev nD => payToks c := by
  unfold toks payToks
  simp only [bigSep_sep']
  rw [bigSep_swap fun c d : Dev nD => (dutyTok ER (barCell c) 0 d : sProp 𝕄),
    bigSep_swap fun c d : Dev nD => (dutyTok ER (xcell c 1 d) 0 d : sProp 𝕄),
    bigSep_swap fun c d : Dev nD => (dutyTok ER (xcell c 3 d) 0 d : sProp 𝕄)]

def u₀ : UU :=
  (initOf (Pipeline.cells cfgs cellOf_inj) (Pipeline.launchToks cfgs cellOf_inj), initOf allCells allToks)

/-- What the launch deals a device: its cells' states, its positions at them, the tokens of their duties; -/
def G (c : Dev nD) : sProp 𝕄 :=
  iprop((bigSep Finset.univ fun k : CK => roundState ER (Rd A) (kcell (c, k)) 0)
    ∗ (bigSep Finset.univ fun k : CK => iprop(atPos ER (kcell (c, k)) 0 ∅ 0 ∗ reached ER (kcell (c, k)) 0)) ∗ toks c)
/-- what it starts from: every cell's record, its positions, the tokens it pays with. -/
def G' (c : Dev nD) : sProp 𝕄 := iprop(∃ K, records A K ∗ places c ∗ payToks c)

theorem fund_cells : BI.own (ER (initOf allCells allToks)) ⊢ (|==> bigSep Finset.univ (G A) : sProp 𝕄) := by
  have hX (Φ : GSem nD τ sig → sProp 𝕄) : bigSep allCells Φ = bigSep Finset.univ fun c : Dev nD => bigSep Finset.univ fun k : CK => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => bigSep_toks c
  iintro HX
  imod (Rounds.fund ER (Rd A) allCells allToks) $$ HX with ⟨Hst, Hr, Hat, Htok⟩
  imodintro
  ihave Hst' := (Entails.of_eq (hX fun g => roundState ER (Rd A) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The counters -/

/-- The kernel's own semaphores: the four arrays; -/
abbrev osem : Fin 4 × Dev nD → SemLoc sig := fun k => .dma (dsem k.1 k.2)
theorem ownSemFacts : Pipeline.OwnSemFacts cfg0.spec osem := by decide +kernel

theorem ownSems0_eq (c : Dev nD) : (Pipeline.ownSems0 (Ix := Unit) (Name := ℕ) (U := UU) (Lvl := ℕ) (Val := Elt F) (τ := τ) osem c : sProp 𝕄)
    = bigSep Finset.univ fun x : Fin 4 × Dev nD => semVal (kcell (c, .inr x)) 0 := rfl
/-- the barrier is the one that is not. -/
theorem unscopedSems0_eq (c : Dev nD) : (unscopedSems0 c : sProp 𝕄) = semVal (barCell c) 0 := by
  unfold unscopedSems0; rw [bigSep_eq_bigSepL_of_eq [SemLoc.reg barSem.sem] (by decide) (by decide)]; rfl
/-- Together they are the counters of all the device's cells. -/
theorem counters_eq (c : Dev nD) :
    (bigSep Finset.univ fun k : CK => semVal (kcell (c, k)) 0 : sProp 𝕄)
      = iprop(unscopedSems0 c ∗ Pipeline.ownSems0 (Ix := Unit) (Name := ℕ) (U := UU) (Lvl := ℕ) (Val := Elt F) (τ := τ) osem c) := by
  rw [ownSems0_eq, unscopedSems0_eq, bigSep_univ_sum, bigSep_univ_of_subsingleton ()]
  rfl

theorem core_alloc (c : Dev nD) :
    iprop(Pipeline.ownSems0 (Ix := Unit) (Name := ℕ) (U := UU) (Lvl := ℕ) (Val := Elt F) (τ := τ) osem c ∗ unscopedSems0 c ∗ G A c)
      ⊢ |={Set.univ}=> iprop((bigSep Finset.univ fun k => iprop(∃ κ : ℕ, cellInv ER (Rd A) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (counters_eq (F := F) c).symm) $$ [Hos Hus]
  · isplitl [Hus] <;> iassumption
  imod (show iprop((bigSep Finset.univ fun k : CK => semVal (kcell (c, k)) 0) ∗ bigSep Finset.univ fun k : CK => roundState ER (Rd A) (kcell (c, k)) 0)
      ⊢ (|={Set.univ}=> bigSep Finset.univ fun k => iprop(∃ κ : ℕ, cellInv ER (Rd A) κ (kcell (c, k))) : sProp 𝕄) from by
        rw [← bigSep_sep']
        exact (bigSep_mono fun k _ => (Rounds.body_intro ER (Rd A) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What every device has may be dealt to each. -/
theorem deal_persistent {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

theorem regroup :
    (bigSep Finset.univ fun c : Dev nD => iprop((bigSep Finset.univ fun k => iprop(∃ κ : ℕ, cellInv ER (Rd A) κ (kcell (c, k))))
          ∗ (bigSep Finset.univ fun k => iprop(atPos ER (kcell (c, k)) 0 ∅ 0 ∗ reached ER (kcell (c, k)) 0)) ∗ toks c) : sProp 𝕄)
      ⊢ bigSep Finset.univ (G' A) := by
  rw [bigSep_sep', bigSep_sep', ← bigSep_univ_prod (fun x : Dev nD × CK => iprop(∃ κ : ℕ, cellInv ER (Rd A) κ (kcell x))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun x : Dev nD × CK => (reached ER (kcell x) 0 : sProp 𝕄))]
  iintro ⟨HI, ⟨Hat, #HR⟩, Htok⟩
  ihave HK := (BI.bigSep_exists_pi Finset.univ (fun (x : Dev nD × CK) (κ : ℕ) => (cellInv ER (Rd A) κ (kcell x) : sProp 𝕄))) $$ HI
  icases HK with ⟨%K, #HI⟩
  ihave Htk := (toks_dealt (F := F)) $$ Htok
  iapply (deal_persistent (R := records A K) (Φ := fun c => iprop(places c ∗ payToks c)) fun c => show iprop(records A K ∗ places c ∗ payToks c) ⊢ G' A c from by
    unfold G'; iintro H; iexists K; iexact H)
  isplitr
  · unfold records; isplitl; · iexact HI
    iexact HR
  · rw [bigSep_sep']
    isplitl [Hat]; · iexact Hat
    iexact Htk

/-- All devices' cells at once. -/
theorem glob : (bigSep Finset.univ fun c => iprop(Pipeline.ownSems0 (Ix := Unit) (Name := ℕ) (U := UU) (Lvl := ℕ) (Val := Elt F) (τ := τ) osem c ∗ unscopedSems0 c ∗ G A c) : sProp 𝕄)
    ⊢ |={Set.univ}=> bigSep Finset.univ (G' A) :=
  ((bigSep_mono fun c _ => core_alloc A c).trans (bigSep_fupd _ _)).trans (BI.fupd_mono (regroup A))

/-! ## The units dealt -/

/-- What each device owes at launch. -/
abbrev O₀ (c : Dev nD) : CellTallies nD τ sig Unit := owed c 0 0 0

theorem cell_eq_iff {x y : Dev nD × CK} : Iff (kcell x = kcell y) (x = y) := kcell_injective.eq_iff

/-- What a device owes one cell, counted peer by peer. -/
theorem owed_at (d : Dev nD) (x : Dev nD × CK) :
    O₀ d (kcell x) () = (∑ r, if x = (peer d r, .inl ()) then 1 else 0)
      + N * ((∑ r, if x = (peer d r, .inr (1, d)) then 1 else 0) + ∑ r, if x = (peer d r, .inr (3, d)) then 1 else 0) := by
  have h (f : Fin 7 → Dev nD × CK) (n : ℕ) :
      (∑ r, (tallyAt (kcell (f r)) () n : CellTallies nD τ sig Unit)) (kcell x) () = n * ∑ r, if x = f r then 1 else 0 := by
    rw [Finset.sum_apply, Finsupp.finset_sum_apply, Finset.mul_sum]
    refine Finset.sum_congr rfl fun r _ => ?_
    rw [tallyAt_apply, mul_ite, mul_one, mul_zero]
    by_cases hx : x = f r
    · rw [if_pos hx, if_pos ⟨by rw [hx], rfl⟩]
    · rw [if_neg hx, if_neg fun h => hx (kcell_injective h.1)]
  unfold O₀ owed
  rw [tail_start, tail_start, tail_start, Pi.add_apply, Finsupp.add_apply, Pi.add_apply, Finsupp.add_apply,
    h (fun r => (peer d r, .inl ())) 1, h (fun r => (peer d r, .inr (1, d))) N, h (fun r => (peer d r, .inr (3, d))) N, one_mul, mul_add, add_assoc]

theorem launch_at (x : Dev nD × CK) {n a b : ℕ} (ha : (∑ d : Dev nD, ∑ r, if x = (peer d r, .inl ()) then 1 else 0) = a)
    (hb : (∑ d : Dev nD, ((∑ r, if x = (peer d r, .inr (1, d)) then 1 else 0) + ∑ r, if x = (peer d r, .inr (3, d)) then 1 else 0)) = b)
    (hn : a + N * b = n) :
    tallyOn (kcell x) (launchCredit (Pipeline.owing O₀) 0 (kcell x)) = (tallyAt (kcell x) () n : CellTallies nD τ sig Unit) := by
  unfold tallyAt; refine congrArg _ (Finsupp.ext fun u => ?_); cases u
  rw [Pipeline.launchCredit_owing, Finsupp.single_eq_same, Finset.sum_congr rfl fun d _ => owed_at d x, Finset.sum_add_distrib, ← Finset.mul_sum, ha, hb, hn]

theorem launch_bar (c : Dev nD) :
    tallyOn (barCell c) (launchCredit (Pipeline.owing O₀) 0 (barCell c)) = (tallyAt (barCell c) () 7 : CellTallies nD τ sig Unit) :=
  launch_at (c, .inl ()) (a := 7) (b := 0) (by revert c; decide +kernel) (by revert c; decide +kernel) (by rw [mul_zero, add_zero])
theorem launch_scatter (c : Dev nD) (r : Fin 7) :
    tallyOn (xcell c 1 (peer c r)) (launchCredit (Pipeline.owing O₀) 0 (xcell c 1 (peer c r))) = (tallyAt (xcell c 1 (peer c r)) () N : CellTallies nD τ sig Unit) :=
  launch_at (c, .inr (1, peer c r)) (a := 0) (b := 1) (by revert c r; decide +kernel) (by revert c r; decide +kernel) (by rw [mul_one, zero_add])
theorem launch_gather (c : Dev nD) (r : Fin 7) :
    tallyOn (xcell c 3 (peer c r)) (launchCredit (Pipeline.owing O₀) 0 (xcell c 3 (peer c r))) = (tallyAt (xcell c 3 (peer c r)) () N : CellTallies nD τ sig Unit) :=
  launch_at (c, .inr (3, peer c r)) (a := 0) (b := 1) (by revert c r; decide +kernel) (by revert c r; decide +kernel) (by rw [mul_one, zero_add])

theorem creds (c : Dev nD) : (Pipeline.launchCred O₀ c : sProp 𝕄) ⊢ credits c := by
  have h1 : (Pipeline.launchCred O₀ c : sProp 𝕄)
      ⊢ bigSep Finset.univ fun k : CK => cred (tallyOn (kcell (c, k)) (launchCredit (Pipeline.owing O₀) 0 (kcell (c, k)))) := by
    unfold Pipeline.launchCred
    refine (bigSep_subset (Finset.subset_univ (Finset.univ.map ⟨csem, csem_injective⟩))).trans ?_
    rw [bigSep_map]
    exact BI.Entails.refl _
  refine h1.trans ?_
  rw [bigSep_cells, bigSep_peers c fun j => (cred (tallyOn (kcell (c, .inr (1, j))) (launchCredit (Pipeline.owing O₀) 0 (kcell (c, .inr (1, j))))) : sProp 𝕄),
    bigSep_peers c fun j => (cred (tallyOn (kcell (c, .inr (3, j))) (launchCredit (Pipeline.owing O₀) 0 (kcell (c, .inr (3, j))))) : sProp 𝕄)]
  unfold credits
  rw [launch_bar, bigSep_congr (s := Finset.univ) (fun r _ => congrArg (cred : _ → sProp 𝕄) (launch_scatter c r)),
    bigSep_congr (s := Finset.univ) (fun r _ => congrArg (cred : _ → sProp 𝕄) (launch_gather c r))]
  iintro ⟨HB, -, ⟨-, H1⟩, -, -, H3⟩
  isplitl [HB]; · iexact HB
  isplitl [H1] <;> iassumption

end Cert.KernelIdeal

end
-- ==== Proof.Run.lean ====
/-
  The whole kernel's run: on every device the windows end as they began, and the result at the exchange's value.
-/
module

public import proofs.«01_k».proof.Proof.Ghost
public import Idealize.ShloMosaic.Lib.Pipeline.CollectiveSegs

@[expose] public section

set_option synthInstance.maxSize 4096

noncomputable section

namespace Cert.KernelIdeal

open Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The launch: any memory, every counter at zero, any generator registers. -/
def st₀ : MemSt nD τ sig (Elt F) := ⟨m, fun _ => 0, ρ⟩

/-- What the four input windows are filled with. -/
def inp : Inp F where
  x c := (win0_0.blk (0 : Fin 1)).view.read (Elt F) ((st₀ m ρ).mem ((c : Thread nD τ).loc main_arg0))
  w c := (win0_1.blk (0 : Fin 1)).view.read (Elt F) ((st₀ m ρ).mem ((c : Thread nD τ).loc main_arg1))
  ids c := (win0_2.blk (0 : Fin 1)).view.read (Elt F) ((st₀ m ρ).mem ((c : Thread nD τ).loc main_arg2))
  ew c := (win0_3.blk (0 : Fin 1)).view.read (Elt F) ((st₀ m ρ).mem ((c : Thread nD τ).loc main_arg3))

/-- What a device starts from, beside its scratch buffers. -/
def start (c : Dev nD) : sProp 𝕄 := iprop(G' (inp m ρ) c ∗ credits c ∗ levAts L lv)

def dats (_ : Fin 1) (c : Dev nD) : Dat τ (Elt F) Unit ℕ UU ℕ cfg0 c where
  A w := (st₀ m ρ).mem ((cfg0.win w).arr.view.loc (c : Thread nD τ))
  after w _ := match w with
    | ⟨0, _⟩ => (inp m ρ).x c
    | ⟨1, _⟩ => (inp m ρ).w c
    | ⟨2, _⟩ => (inp m ρ).ids c
    | ⟨3, _⟩ => (inp m ρ).ew c
    | ⟨4, _⟩ => outVal (inp m ρ) c
  Φ t := match t with
    | ⟨0, _⟩ => iprop(start m ρ c ∗ scratch c)
    | ⟨_ + 1, _⟩ => iprop(scratch c ∗ bigSep Finset.univ fun k : CK => semVal (kcell (c, k)) 0)
  q _ := fullShare
  owed t := match t with
    | ⟨0, _⟩ => O₀ c
    | ⟨_ + 1, _⟩ => 0

theorem one_point : cfg0.N = 1 := N_0
abbrev pt : Fin cfg0.N := t0_0
theorem only_pt (t : Fin cfg0.N) : t = pt := fin_N0 t

/-! ## The body's obligation -/

/-- A whole buffer held at contents given by an equation. -/
def stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))
theorem stg_of (c : Dev nD) (b : Ref sig .tc) (X : b.ty.Contents (Elt F)) : (((c : Thread nD τ).loc b) ↦{fullShare} X : sProp 𝕄) ⊢ stg c b X := by
  unfold stg; iintro H; iexists X; isplitr; · ipureintro; rfl
  iexact H
theorem of_stg (c : Dev nD) (b : Ref sig .tc) (X : b.ty.Contents (Elt F)) : stg c b X ⊢ (((c : Thread nD τ).loc b) ↦{fullShare} X : sProp 𝕄) := by
  unfold stg; iintro ⟨%f, %h, H⟩; subst h; iexact H

def pre (c : Dev nD) : sProp 𝕄 :=
  iprop((start m ρ c ∗ scratch c) ∗ (dats m ρ 0 c).owesAt () pt.castSucc
    ∗ (∃ d, stg c cc0_stg0_0 ((dats m ρ 0 c).before (0 : Fin 5) pt d))
    ∗ (∃ d, stg c cc0_stg1_0 ((dats m ρ 0 c).before (1 : Fin 5) pt d))
    ∗ (∃ d, stg c cc0_stg2_0 ((dats m ρ 0 c).before (2 : Fin 5) pt d))
    ∗ (∃ d, stg c cc0_stg3_0 ((dats m ρ 0 c).before (3 : Fin 5) pt d))
    ∗ (∃ d, stg c cc0_stg4_0 ((dats m ρ 0 c).before (4 : Fin 5) pt d)))
def post (c : Dev nD) : sProp 𝕄 :=
  iprop((scratch c ∗ bigSep Finset.univ fun k : CK => semVal (kcell (c, k)) 0) ∗ (dats m ρ 0 c).owesAt () pt.succ
    ∗ stg c cc0_stg0_0 ((inp m ρ).x c) ∗ stg c cc0_stg1_0 ((inp m ρ).w c) ∗ stg c cc0_stg2_0 ((inp m ρ).ids c)
    ∗ stg c cc0_stg3_0 ((inp m ρ).ew c) ∗ stg c cc0_stg4_0 (outVal (inp m ρ) c))

theorem before_x (c : Dev nD) (d) : (dats m ρ 0 c).before (0 : Fin 5) pt d = (inp m ρ).x c := by
  unfold Dat.before; rw [if_pos (fetch0_0 pt)]; rfl
theorem before_w (c : Dev nD) (d) : (dats m ρ 0 c).before (1 : Fin 5) pt d = (inp m ρ).w c := by
  unfold Dat.before; rw [if_pos (fetch0_1 pt)]; rfl
theorem before_ids (c : Dev nD) (d) : (dats m ρ 0 c).before (2 : Fin 5) pt d = (inp m ρ).ids c := by
  unfold Dat.before; rw [if_pos (fetch0_2 pt)]; rfl
theorem before_ew (c : Dev nD) (d) : (dats m ρ 0 c).before (3 : Fin 5) pt d = (inp m ρ).ew c := by
  unfold Dat.before; rw [if_pos (fetch0_3 pt)]; rfl

/-- The body's own conditions from what the launch gives it; -/
theorem pre_enter (c : Dev nD) : pre m ρ c ⊢ iprop(∃ K, (records (inp m ρ) K ∗ levAts L lv) ∗ owing c (owed c 0 0 0) ∗ places c ∗ payToks c
    ∗ credits c ∗ scratch c ∗ held (inp m ρ) c ∗ ownsAny c oM) := by
  unfold pre start G' held owing Dat.owesAt Pipeline.owesWithin ownsAny
  simp only [before_x, before_w, before_ids, before_ew]
  iintro ⟨⟨⟨⟨%K, HR, Hp, Ht⟩, Hc, Hl⟩, Hs⟩, ⟨%W, -, HO⟩, ⟨%d0, H0⟩, ⟨%d1, H1⟩, ⟨%d2, H2⟩, ⟨%d3, H3⟩, ⟨%d4, H4⟩⟩
  ihave H0 := (of_stg c cc0_stg0_0 _) $$ H0
  ihave H1 := (of_stg c cc0_stg1_0 _) $$ H1
  ihave H2 := (of_stg c cc0_stg2_0 _) $$ H2
  ihave H3 := (of_stg c cc0_stg3_0 _) $$ H3
  ihave H4 := (of_stg c cc0_stg4_0 _) $$ H4
  iexists K
  isplitl [HR Hl]
  · isplitl [HR] <;> iassumption
  isplitl [HO]
  · iexists W; iexact HO
  isplitl [Hp]; · iexact Hp
  isplitl [Ht]; · iexact Ht
  isplitl [Hc]; · iexact Hc
  isplitl [Hs]; · iexact Hs
  isplitl [H0 H1 H2 H3]
  · isplitl [H0]; · iexact H0
    isplitl [H1]; · iexact H1
    isplitl [H2] <;> iassumption
  iexists _
  rw [owns_whole]
  iexact H4

/-- and back. -/
theorem post_leave (c : Dev nD) : iprop(owing c 0 ∗ (bigSep Finset.univ fun k : CK => semVal (kcell (c, k)) 0) ∗ scratch c ∗ held (inp m ρ) c
    ∗ owns (c : Thread nD τ) oM fullShare (outVal (inp m ρ) c)) ⊢ post m ρ c := by
  unfold post held owing Dat.owesAt Pipeline.owesWithin
  rw [show (dats m ρ 0 c).owed pt.succ = 0 from rfl, owns_whole]
  iintro ⟨⟨%W, HO⟩, Hv, Hs, ⟨H0, H1, H2, H3⟩, H4⟩
  isplitl [Hs Hv]
  · isplitl [Hs] <;> iassumption
  isplitl [HO]
  · iexists W; isplitr
    · ipureintro; exact fun _ _ => Or.inl trivial
    iexact HO
  isplitl [H0]; · iapply (stg_of c cc0_stg0_0 _); iexact H0
  isplitl [H1]; · iapply (stg_of c cc0_stg1_0 _); iexact H1
  isplitl [H2]; · iapply (stg_of c cc0_stg2_0 _); iexact H2
  isplitl [H3]; · iapply (stg_of c cc0_stg3_0 _); iexact H3
  iapply (stg_of c cc0_stg4_0 _); iexact H4

/-- The body, its device's number read first. -/
theorem body_run (c : Dev nD) : pre m ρ c ⊢ wpc c (body (F := F)) (fun _ => post m ρ c) := by
  refine (pre_enter m ρ c).trans ?_
  unfold body wpc
  simp only [Prog.lift, Prog.bind_op, Prog.bind_ret, wp_deviceId]
  iintro ⟨%K, H⟩
  have h := (rest_run (inp m ρ) K c).trans (wp_mono frame (wpE (defs₀ (F := F)) 𝒱₀ (c : Thread nD τ) none) Set.univ fun _ => post_leave m ρ c)
  iapply h
  iexact H

set_option maxRecDepth 65536 in
theorem body_obligation (c : Dev nD) : BodyObligation (dats (F := F) m ρ 0 c) (defs₀ (F := F)) 𝒱₀ () Set.univ := fun t => by
  rw [only_pt t, bigSep_W0, bigSep_W0]
  simp only [owns_whole_eq]
  have h := body_run m ρ c
  rw [← body_eq] at h
  exact h

/-! ## The launch's conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (inp m ρ) c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc] <;> iassumption
  · iempintro

/-- The scratch buffers are the launch's. -/
theorem scratch_of (c : Dev nD) : (Pipeline.scopedRest cfg0.spec c : sProp 𝕄) ⊢ scratch c := by
  rw [scopedRest0_eq]
  unfold scratch gPts ownsAny
  simp only [owns_whole]
  exact BI.Entails.refl _
theorem of_scratch (c : Dev nD) : scratch c ⊢ (Pipeline.scopedRest cfg0.spec c : sProp 𝕄) := by
  rw [scopedRest0_eq]
  unfold scratch gPts ownsAny
  simp only [owns_whole]
  exact BI.Entails.refl _

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m ρ c ∗ scratch c) from rfl]
  iintro ⟨Hs, -, Hr⟩
  isplitl [Hs]; · iexact Hs
  iapply (scratch_of c); iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(scratch c ∗ bigSep Finset.univ fun k : CK => semVal (kcell (c, k)) 0) from rfl, counters_eq]
  iintro ⟨Hr, Hu, Ho⟩
  isplitl [Hu]; · iexact Hu
  isplitl [Ho]; · iexact Ho
  iapply (of_scratch c); iexact Hr

theorem waits (c : Dev nD) : (levAts L lv : sProp 𝕄) ⊢ Pipeline.cellsWaits cfgs (dats m ρ) () 0 c :=
  Pipeline.cellsWaits_intro cfgs (dats m ρ) () 0 c fun w s t =>
    mayWait c _ _ fun g u h => by
      have hk : lvK (kindOf (SemLoc.dma ((cfg0.win w).sem s))) = 0 := by revert w s; decide +kernel
      rcases t with ⟨_ | _, ht⟩
      · exact owed_above_stage c hk g u h
      · exact absurd h (Nat.lt_irrefl 0)

/-! ## The run -/

/-- Every window's array ends at what the pipeline's data say. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every fair execution of the eight devices ends, each window's array as the data say and every counter at zero. -/
theorem run_main : θ_run defs (onTc (τ := τ) (main (F := F))) (st₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (inp m ρ)) (G' := G' (inp m ρ)) (u₀ := u₀)
    (hu₀ := by
      unfold u₀
      iintro Hu
      ihave H := (ownU_pair _ _) $$ Hu
      icases H with ⟨HP, HX⟩
      imod (fund_cells (inp m ρ)) $$ HX with HG
      imodintro
      isplitl [HP] <;> iassumption)
    (hglob := glob (inp m ρ))
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An input's array ends as it began; -/
theorem final_in (c : Dev nD) (w : Fin cfg0.W) (h : (cfg0.win w).isOut = false) :
    finalA m ρ c w = m ((cfg0.win w).arr.view.loc (c : Thread nD τ)) :=
  (dats (F := F) m ρ 0 c).arrAt_in w h _

end Cert.KernelIdeal

end
-- ==== Proof.Final.lean ====
/-
  The run read at the arrays: each window is one block, the whole array, so the body's inputs are the arguments and the
  result array ends at the exchange's value.
-/
module

public import proofs.«01_k».proof.Proof.Run

@[expose] public section

set_option synthInstance.maxSize 4096

noncomputable section

namespace Cert.KernelIdeal

open Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The offsets and the extents of every window's only block. -/
theorem blk_zero2 {n k : ℕ} (i j : (⟨2, ![n, k]⟩ : Shape).Idx) (h0 : (j 0).val = 0 * n + 1 * (i 0).val) (h1 : (j 1).val = 0 * k + 1 * (i 1).val) : j = i := by
  funext a; apply Fin.ext
  match a with
  | ⟨0, _⟩ => exact h0.trans (by rw [Nat.zero_mul, Nat.zero_add, Nat.one_mul]; rfl)
  | ⟨1, _⟩ => exact h1.trans (by rw [Nat.zero_mul, Nat.zero_add, Nat.one_mul]; rfl)
theorem blk_zero3 {n k l : ℕ} (i j : (⟨3, ![n, k, l]⟩ : Shape).Idx) (h0 : (j 0).val = 0 * n + 1 * (i 0).val)
    (h1 : (j 1).val = 0 * k + 1 * (i 1).val) (h2 : (j 2).val = 0 * l + 1 * (i 2).val) : j = i := by
  funext a; apply Fin.ext
  match a with
  | ⟨0, _⟩ => exact h0.trans (by rw [Nat.zero_mul, Nat.zero_add, Nat.one_mul]; rfl)
  | ⟨1, _⟩ => exact h1.trans (by rw [Nat.zero_mul, Nat.zero_add, Nat.one_mul]; rfl)
  | ⟨2, _⟩ => exact h2.trans (by rw [Nat.zero_mul, Nat.zero_add, Nat.one_mul]; rfl)

theorem inp_x (c : Dev nD) : (inp m ρ).x c = m ((c : Thread nD τ).loc main_arg0) := by
  funext i
  exact congrArg (m ((c : Thread nD τ).loc main_arg0)) (blk_zero2 (n := 2048) (k := 1024) i ((win0_0.blk (0 : Fin 1)).view.emb i) rfl rfl)
theorem inp_w (c : Dev nD) : (inp m ρ).w c = m ((c : Thread nD τ).loc main_arg1) := by
  funext i
  exact congrArg (m ((c : Thread nD τ).loc main_arg1)) (blk_zero2 (n := 1024) (k := 64) i ((win0_1.blk (0 : Fin 1)).view.emb i) rfl rfl)
theorem inp_ids (c : Dev nD) : (inp m ρ).ids c = m ((c : Thread nD τ).loc main_arg2) := by
  funext i
  exact congrArg (m ((c : Thread nD τ).loc main_arg2)) (blk_zero2 (n := 2048) (k := 2) i ((win0_2.blk (0 : Fin 1)).view.emb i) rfl rfl)
theorem inp_ew (c : Dev nD) : (inp m ρ).ew c = m ((c : Thread nD τ).loc main_arg3) := by
  funext i
  exact congrArg (m ((c : Thread nD τ).loc main_arg3)) (blk_zero3 (n := 8) (k := 1024) (l := 1024) i ((win0_3.blk (0 : Fin 1)).view.emb i) rfl rfl rfl)

theorem out_emb (i : S2048x1024.Idx) : (win0_4.blk (0 : Fin 1)).view.emb i = i :=
  blk_zero2 (n := 2048) (k := 1024) i ((win0_4.blk (0 : Fin 1)).view.emb i) rfl rfl

/-- The result array's end. -/
theorem final_out (c : Dev nD) : finalA m ρ c 4 = outVal (inp m ρ) c := by
  refine (dats (F := F) m ρ 0 c).arrAt_eq_of_cover 4 (outVal (inp m ρ) c) (fun t _ => ?_) fun i => ⟨pt, flush0_4 pt, ?_⟩
  · rw [only_pt t]
    funext i
    exact (congrArg (outVal (inp m ρ) c) (out_emb i)).symm
  · exact Finset.mem_map.mpr ⟨i, Finset.mem_univ _, out_emb i⟩

/-- Every fair execution ends with the result on every device, the arguments as they were, every counter at zero. -/
theorem run_arrays : θ_run defs (onTc (τ := τ) (main (F := F))) ⟨m, fun _ => 0, ρ⟩ (fun r =>
    (∀ c : Dev nD, r.2.mem ((c : Thread nD τ).loc main_v1) = outVal (inp m ρ) c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
      ∧ r.2.sem = fun _ => 0) :=
  (θ_run defs _ _).mono (fun _ h => ⟨fun c => ⟨(h.1 c 4).trans (final_out m ρ c), (h.1 c 0).trans (final_in m ρ c 0 rfl),
    (h.1 c 1).trans (final_in m ρ c 1 rfl), (h.1 c 2).trans (final_in m ρ c 2 rfl), (h.1 c 3).trans (final_in m ρ c 3 rfl)⟩, h.2⟩)
    (run_main m ρ)

/-- The same without the result. -/
theorem run_frame : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
      ∧ r.2.sem = fun _ => 0) :=
  (θ_run defs _ _).mono (fun _ h => ⟨fun c => (h.1 c).2, h.2⟩) (run_arrays m ρ)

end Cert.KernelIdeal

end
-- ==== Proof.Moe.lean ====
/-
  The mixture of experts over the extended reals, by token and column: what the kernel sums, what the reference
  composes, and that the two agree where tokens and router weights are finite.
-/
module

public import Idealize.ShloMosaic.PureOps.Ideal
public import Idealize.ShloMosaic.Lib.Pointwise

@[expose] public section

noncomputable section

namespace Cert.Moe

open Idealize.ShloMosaic

/-! ## A choice word read as one of the 64 experts -/

/-- The value where the word is expert `g`'s number, zero elsewhere. -/
def onExpert (w : BitVec 32) (g : Fin 64) (v : EReal) : EReal := if w = BitVec.ofNat 32 g.val then v else 0

/-- What `f` has at the expert that the word names; zero where it names none. -/
def chosen (w : BitVec 32) (f : Fin 64 → EReal) : EReal := if h : w.toNat < 64 then f ⟨w.toNat, h⟩ else 0

theorem chosen_of_lt {w : BitVec 32} (h : w.toNat < 64) (f : Fin 64 → EReal) : chosen w f = f ⟨w.toNat, h⟩ := dif_pos h
theorem chosen_of_not_lt {w : BitVec 32} (h : ¬ w.toNat < 64) (f : Fin 64 → EReal) : chosen w f = 0 := dif_neg h

/-- Two 32-bit numbers below 64 are the same word only if they are the same. -/
theorem eq_ofNat_iff (w : BitVec 32) (g : Fin 64) : w = BitVec.ofNat 32 g.val ↔ w.toNat = g.val := by
  have hg := g.isLt
  constructor
  · rintro rfl; rw [BitVec.toNat_ofNat]; omega
  · intro h; apply BitVec.eq_of_toNat_eq; rw [BitVec.toNat_ofNat, h]; omega

/-- Summing over the experts what stands at the named one gives that one's. -/
theorem sum_onExpert (w : BitVec 32) (f : Fin 64 → EReal) : ∑ g, onExpert w g (f g) = chosen w f := by
  by_cases h : w.toNat < 64
  · rw [chosen_of_lt h, Finset.sum_eq_single (⟨w.toNat, h⟩ : Fin 64)]
    · exact if_pos ((eq_ofNat_iff w ⟨w.toNat, h⟩).mpr rfl)
    · intro g _ hg
      exact if_neg fun e => hg (Fin.ext ((eq_ofNat_iff w g).mp e).symm)
    · intro hn; exact absurd (Finset.mem_univ _) hn
  · rw [chosen_of_not_lt h]
    refine Finset.sum_eq_zero fun g _ => if_neg fun e => h ?_
    rw [(eq_ofNat_iff w g).mp e]; exact g.isLt

/-- A factor goes inside. -/
theorem mul_chosen (a : EReal) (w : BitVec 32) (f : Fin 64 → EReal) : a * chosen w f = chosen w (fun g => a * f g) := by
  by_cases h : w.toNat < 64
  · rw [chosen_of_lt h, chosen_of_lt h]
  · rw [chosen_of_not_lt h, chosen_of_not_lt h, mul_zero]

theorem chosen_mul (a : EReal) (w : BitVec 32) (f : Fin 64 → EReal) : chosen w f * a = chosen w (fun g => f g * a) := by
  by_cases h : w.toNat < 64
  · rw [chosen_of_lt h, chosen_of_lt h]
  · rw [chosen_of_not_lt h, chosen_of_not_lt h, zero_mul]

/-- A sum of products with the chosen expert's entries is the chosen expert's sum of products. -/
theorem sum_mul_chosen {n : ℕ} (u : Fin n → EReal) (w : BitVec 32) (f : Fin 64 → Fin n → EReal) :
    ∑ d, u d * chosen w (fun g => f g d) = chosen w (fun g => ∑ d, u d * f g d) := by
  by_cases h : w.toNat < 64
  · rw [chosen_of_lt h]; exact Finset.sum_congr rfl fun d _ => by rw [chosen_of_lt h]
  · rw [chosen_of_not_lt h]; exact Finset.sum_eq_zero fun d _ => by rw [chosen_of_not_lt h, mul_zero]

/-! ## The two compositions -/

variable (x : Fin 2048 → Fin 1024 → EReal) (W : Fin 1024 → Fin 64 → EReal) (e : Fin 2 → Fin 2048 → BitVec 32)
  (E : Fin 64 → Fin 1024 → Fin 1024 → EReal)

/-- A token's score for an expert. -/
def score (t : Fin 2048) (g : Fin 64) : EReal := ∑ d, x t d * W d g
/-- A token's greatest score. -/
def top (t : Fin 2048) : EReal := Finset.univ.fold max (Ideal.ofBits .f32 4286578688#32) (score x W t)
/-- The exponential of a score less the greatest. -/
def num (t : Fin 2048) (g : Fin 64) : EReal := Ideal.exp (score x W t g - top x W t)
/-- The exponentials' sum. -/
def total (t : Fin 2048) : EReal := ∑ g, num x W t g
/-- The softmax. -/
def prob (t : Fin 2048) (g : Fin 64) : EReal := Ideal.div (num x W t g) (total x W t)
/-- A token times an expert's matrix. -/
def through (t : Fin 2048) (g : Fin 64) (h : Fin 1024) : EReal := ∑ d, x t d * E g d h

/-- The kernel's gate of choice `k`: the exponential chosen over the two chosen. -/
def gate (k : Fin 2) (t : Fin 2048) : EReal :=
  Ideal.div (chosen (e k t) (num x W t)) (chosen (e 0 t) (num x W t) + chosen (e 1 t) (num x W t))
/-- The reference's: the same of the softmax. -/
def refGate (k : Fin 2) (t : Fin 2048) : EReal :=
  Ideal.div (chosen (e k t) (prob x W t)) (chosen (e 0 t) (prob x W t) + chosen (e 1 t) (prob x W t))

/-- The kernel's result: over all experts, the gates of the choices that name the expert, times its product. -/
def kernelOut (t : Fin 2048) (h : Fin 1024) : EReal :=
  ∑ g, (onExpert (e 0 t) g (gate x W e 0 t) + onExpert (e 1 t) g (gate x W e 1 t)) * through x E t g h
/-- The reference's result: each gate times the product with the chosen matrix, the two added. -/
def refOut (t : Fin 2048) (h : Fin 1024) : EReal :=
  refGate x W e 0 t * (∑ d, x t d * chosen (e 0 t) (fun g => E g d h))
    + refGate x W e 1 t * (∑ d, x t d * chosen (e 1 t) (fun g => E g d h))

/-! ## They agree -/

/-- An extended real is finite. -/
def Fin' (v : EReal) : Prop := v ≠ ⊤ ∧ v ≠ ⊥

theorem exists_real {v : EReal} (h : Fin' v) : ∃ r : ℝ, v = (r : EReal) := ⟨v.toReal, (EReal.coe_toReal h.1 h.2).symm⟩

theorem sum_coe {ι : Type} (s : Finset ι) (f : ι → EReal) (g : ι → ℝ) (hg : ∀ i, f i = (g i : EReal)) :
    ∑ i ∈ s, f i = ((∑ i ∈ s, g i : ℝ) : EReal) := by
  classical
  refine Finset.induction_on s (by simp) fun a s ha ih => ?_
  rw [Finset.sum_insert ha, Finset.sum_insert ha, ih, hg, EReal.coe_add]

theorem sum_real {ι : Type} (s : Finset ι) (f : ι → EReal) (hf : ∀ i, ∃ r : ℝ, f i = (r : EReal)) :
    ∃ r : ℝ, ∑ i ∈ s, f i = (r : EReal) := by
  choose g hg using hf
  exact ⟨∑ i ∈ s, g i, sum_coe s f g hg⟩

variable {x W} in
theorem score_real (hx : ∀ t d, Fin' (x t d)) (hW : ∀ d g, Fin' (W d g)) (t : Fin 2048) (g : Fin 64) :
    ∃ r : ℝ, score x W t g = (r : EReal) :=
  sum_real _ _ fun d => by
    obtain ⟨a, ha⟩ := exists_real (hx t d)
    obtain ⟨b, hb⟩ := exists_real (hW d g)
    exact ⟨a * b, by rw [ha, hb, EReal.coe_mul]⟩

/-- The least word is minus infinity. -/
theorem least_eq : Ideal.ofBits .f32 4286578688#32 = (⊥ : EReal) := by
  simp [Ideal.ofBits, Ideal.ieee]

/-- The greatest score is one of the scores. -/
theorem top_eq (t : Fin 2048) : ∃ g, top x W t = score x W t g := by
  have h : top x W t ≤ Ideal.ofBits .f32 4286578688#32 ∨ ∃ g ∈ Finset.univ, top x W t ≤ score x W t g :=
    (Finset.le_fold_max (top x W t)).mp (le_refl _)
  have hle : ∀ g, score x W t g ≤ top x W t := fun g =>
    (Finset.le_fold_max (score x W t g)).mpr (Or.inr ⟨g, Finset.mem_univ _, le_refl _⟩)
  rcases h with h | ⟨g, -, hg⟩
  · refine ⟨0, le_antisymm (h.trans ?_) (hle 0)⟩
    rw [least_eq]; exact bot_le
  · exact ⟨g, le_antisymm hg (hle g)⟩

variable {x W} in
/-- Every exponential is a real that is not negative, and one of them is 1. -/
theorem num_real (hx : ∀ t d, Fin' (x t d)) (hW : ∀ d g, Fin' (W d g)) (t : Fin 2048) :
    ∃ p : Fin 64 → ℝ, (∀ g, num x W t g = (p g : EReal)) ∧ (∀ g, 0 ≤ p g) ∧ ∃ g, p g = 1 := by
  choose s hs using score_real hx hW t
  obtain ⟨g₀, h₀⟩ := top_eq x W t
  refine ⟨fun g => Real.exp (s g - s g₀), fun g => ?_, fun g => (Real.exp_pos _).le, g₀, by show Real.exp (s g₀ - s g₀) = 1; rw [sub_self, Real.exp_zero]⟩
  unfold num
  rw [h₀, hs, hs, ← EReal.coe_sub]
  rfl

variable {x W} in
theorem total_real {t : Fin 2048} {p : Fin 64 → ℝ} (hp : ∀ g, num x W t g = (p g : EReal)) :
    total x W t = ((∑ g, p g : ℝ) : EReal) := sum_coe _ _ p hp

/-- A quotient of reals by a real that is not zero. -/
theorem div_real (a : ℝ) {b : ℝ} (hb : b ≠ 0) : Ideal.div (a : EReal) (b : EReal) = ((a / b : ℝ) : EReal) := by
  unfold Ideal.div
  rw [if_neg (by exact_mod_cast hb)]
  rw [← EReal.coe_inv, ← EReal.coe_mul]; rfl

theorem div_zero_zero : Ideal.div (0 : EReal) 0 = ⊥ := by
  unfold Ideal.div
  rw [if_pos rfl, if_neg (lt_irrefl _)]

variable {x W} in
/-- What is chosen of a table of reals is a real, not negative where they are not. -/
theorem chosen_real (w : BitVec 32) (p : Fin 64 → ℝ) (hp : ∀ g, 0 ≤ p g) :
    ∃ r : ℝ, 0 ≤ r ∧ ∀ s : ℝ, chosen w (fun g => ((p g / s : ℝ) : EReal)) = ((r / s : ℝ) : EReal) := by
  by_cases h : w.toNat < 64
  · exact ⟨p ⟨_, h⟩, hp _, fun s => chosen_of_lt h _⟩
  · exact ⟨0, le_refl _, fun s => by rw [chosen_of_not_lt h, zero_div, EReal.coe_zero]⟩

variable {x W} in
/-- The gates agree, and are both not negative or both minus infinity. -/
theorem gates (hx : ∀ t d, Fin' (x t d)) (hW : ∀ d g, Fin' (W d g)) (t : Fin 2048) :
    (∀ k, gate x W e k t = refGate x W e k t)
      ∧ ((∀ k, 0 ≤ gate x W e k t) ∨ ∀ k, gate x W e k t = ⊥) := by
  obtain ⟨p, hp, hp0, g₁, hg₁⟩ := num_real hx hW t
  have hS : (0 : ℝ) < ∑ g, p g := by
    refine Finset.sum_pos' (fun g _ => hp0 g) ⟨g₁, Finset.mem_univ _, ?_⟩
    rw [hg₁]; exact one_pos
  have hnum : num x W t = fun g => ((p g / 1 : ℝ) : EReal) := funext fun g => by rw [hp, div_one]
  have hprob : prob x W t = fun g => ((p g / (∑ g, p g) : ℝ) : EReal) := funext fun g => by
    unfold prob
    rw [hp, total_real hp, div_real _ hS.ne']
  have hc : ∀ k, ∃ r : ℝ, 0 ≤ r ∧ chosen (e k t) (num x W t) = (r : EReal)
      ∧ chosen (e k t) (prob x W t) = ((r / (∑ g, p g) : ℝ) : EReal) := fun k => by
    obtain ⟨r, hr, h⟩ := chosen_real (e k t) p hp0
    exact ⟨r, hr, by rw [hnum, h 1, div_one], by rw [hprob, h]⟩
  choose r hr hn hpr using hc
  have hgk : ∀ k, gate x W e k t = Ideal.div (r k : EReal) ((r 0 + r 1 : ℝ) : EReal) := fun k => by
    unfold gate; rw [hn, hn, hn, EReal.coe_add]
  have hgr : ∀ k, refGate x W e k t
      = Ideal.div ((r k / (∑ g, p g) : ℝ) : EReal) ((r 0 / (∑ g, p g) + r 1 / (∑ g, p g) : ℝ) : EReal) := fun k => by
    unfold refGate; rw [hpr, hpr, hpr, EReal.coe_add]
  by_cases hz : r 0 + r 1 = 0
  · have h0 : ∀ k, r k = 0 := fun k => by
      have a := hr 0
      have b := hr 1
      match k with
      | ⟨0, _⟩ => show r 0 = 0; linarith
      | ⟨1, _⟩ => show r 1 = 0; linarith
    have hb : ∀ k, gate x W e k t = ⊥ := fun k => by
      rw [hgk, h0, h0, h0, add_zero, EReal.coe_zero, div_zero_zero]
    refine ⟨fun k => ?_, Or.inr hb⟩
    rw [hb, hgr, h0, h0, h0, zero_div, add_zero, EReal.coe_zero, div_zero_zero]
  · have hz' : r 0 / (∑ g, p g) + r 1 / (∑ g, p g) ≠ 0 := by
      rw [← add_div]; exact div_ne_zero hz hS.ne'
    refine ⟨fun k => ?_, Or.inl fun k => ?_⟩
    · rw [hgk, hgr, div_real _ hz, div_real _ hz', ← add_div, div_div_div_cancel_right₀ hS.ne']
    · rw [hgk, div_real _ hz]
      exact_mod_cast div_nonneg (hr k) (add_nonneg (hr 0) (hr 1))

/-- Two factors, both not negative or both minus infinity, distribute over any value. -/
theorem distrib {a b : EReal} (h : (0 ≤ a ∧ 0 ≤ b) ∨ (a = ⊥ ∧ b = ⊥)) (d : EReal) : (a + b) * d = a * d + b * d := by
  rcases h with ⟨ha, hb⟩ | ⟨rfl, rfl⟩
  · exact EReal.right_distrib_of_nonneg ha hb
  · rw [EReal.bot_add]
    rcases lt_trichotomy d 0 with hd | rfl | hd
    · rw [EReal.bot_mul_of_neg hd]; rfl
    · simp
    · rw [EReal.bot_mul_of_pos hd]; rfl

theorem onExpert_mul {a b : EReal} (h : (0 ≤ a ∧ 0 ≤ b) ∨ (a = ⊥ ∧ b = ⊥)) (w w' : BitVec 32) (g : Fin 64) (d : EReal) :
    (onExpert w g a + onExpert w' g b) * d = onExpert w g (a * d) + onExpert w' g (b * d) := by
  unfold onExpert
  split <;> split
  · exact distrib h d
  · rw [add_zero, add_zero]
  · rw [zero_add, zero_add]
  · rw [add_zero, zero_mul]

variable {x W} in
/-- Where tokens and router weights are finite, the kernel's sum is the reference's composition. -/
theorem kernelOut_eq (hx : ∀ t d, Fin' (x t d)) (hW : ∀ d g, Fin' (W d g)) (t : Fin 2048) (h : Fin 1024) :
    kernelOut x W e E t h = refOut x W e E t h := by
  obtain ⟨hg, hs⟩ := gates e hx hW t
  have hs' : (0 ≤ gate x W e 0 t ∧ 0 ≤ gate x W e 1 t) ∨ (gate x W e 0 t = ⊥ ∧ gate x W e 1 t = ⊥) :=
    hs.imp (fun h => ⟨h 0, h 1⟩) (fun h => ⟨h 0, h 1⟩)
  unfold kernelOut refOut
  rw [Finset.sum_congr rfl fun g _ => onExpert_mul hs' _ _ g _, Finset.sum_add_distrib,
    sum_onExpert (e 0 t) (fun g => gate x W e 0 t * through x E t g h),
    sum_onExpert (e 1 t) (fun g => gate x W e 1 t * through x E t g h), ← mul_chosen, ← mul_chosen,
    sum_mul_chosen (x t) (e 0 t) (fun g d => E g d h), sum_mul_chosen (x t) (e 1 t) (fun g d => E g d h), hg, hg]
  rfl

end Cert.Moe

end
-- ==== Proof.KVal.lean ====
/-
  The kernel's result read at a token and a column, over the extended reals: the sum of Moe over all experts.
-/
module

public import proofs.«01_k».proof.Proof.Values
public import proofs.«01_k».proof.Proof.Moe
public import Idealize.ShloMosaic.Lib.Pointwise
public import Idealize.ShloMosaic.Lib.Pointwise.IndexBridge

@[expose] public section

set_option maxRecDepth 16384
set_option synthInstance.maxSize 4096

noncomputable section

namespace Cert.KernelIdeal

open Idealize.ShloMosaic Idealize.SL.Sem
open Gen

/-! ## The windows' contents, and what the body loads of them -/

/-- Row `p` of block `j`. -/
abbrev rowAt (j : Dev nD) (p : Fin 256) : Fin 2048 := ⟨256 * j.val + p.val, by
  have := j.isLt; have := p.isLt; have : nD = 8 := rfl; omega⟩
/-- Local expert `e` of device `c`. -/
abbrev expertAt (c : Dev nD) (e : Fin 8) : Fin 64 := ⟨8 * c.val + e.val, by
  have := c.isLt; have := e.isLt; have : nD = 8 := rfl; omega⟩

/-- Every device holds the same tokens, router and choices, and its eight of the experts. -/
structure Same (A : Inp Ideal) (X : Fin 2048 → Fin 1024 → EReal) (W : Fin 1024 → Fin 64 → EReal)
    (I : Fin 2 → Fin 2048 → BitVec 32) (E : Fin 64 → Fin 1024 → Fin 1024 → EReal) : Prop where
  x : ∀ c t d, A.x c (ix2 t d) = X t d
  w : ∀ c d g, A.w c (ix2 d g) = W d g
  ids : ∀ c t k, A.ids c (ix2 t k) = I k t
  ew : ∀ c e d h, A.ew c (ix3 e d h) = E (expertAt c e) d h

variable {A : Inp Ideal} {X : Fin 2048 → Fin 1024 → EReal} {W : Fin 1024 → Fin 64 → EReal}
  {I : Fin 2 → Fin 2048 → BitVec 32} {E : Fin 64 → Fin 1024 → Fin 1024 → EReal} (S : Same A X W I E)

/-- An index of two axes is known by its values. -/
theorem idx2 {n m : ℕ} (i : (⟨2, ![n, m]⟩ : Shape).Idx) (a : Fin n) (b : Fin m) (h0 : (i 0).val = a.val) (h1 : (i 1).val = b.val) :
    i = ix2 a b := by
  funext k; apply Fin.ext
  match k with
  | ⟨0, _⟩ => exact h0
  | ⟨1, _⟩ => exact h1
theorem idx3 {n m l : ℕ} (i : (⟨3, ![n, m, l]⟩ : Shape).Idx) (a : Fin n) (b : Fin m) (c : Fin l) (h0 : (i 0).val = a.val)
    (h1 : (i 1).val = b.val) (h2 : (i 2).val = c.val) : i = ix3 a b c := by
  funext k; apply Fin.ext
  match k with
  | ⟨0, _⟩ => exact h0
  | ⟨1, _⟩ => exact h1
  | ⟨2, _⟩ => exact h2

include S

theorem xAll_at (c : Dev nD) (t : Fin 2048) (d : Fin 1024) : xAll A c (ix2 t d) = X t d :=
  (congrArg (A.x c) (idx2 _ t d (by show 0 + 1 * t.val = _; omega) (by show 0 + 1 * d.val = _; omega))).trans (S.x c t d)
theorem wAll_at (c : Dev nD) (d : Fin 1024) (g : Fin 64) : wAll A c (ix2 d g) = W d g :=
  (congrArg (A.w c) (idx2 _ d g (by show 0 + 1 * d.val = _; omega) (by show 0 + 1 * g.val = _; omega))).trans (S.w c d g)
theorem ids0_at (c : Dev nD) (t : Fin 2048) : ids0 A c (ix2 t 0) = I 0 t :=
  (congrArg (A.ids c) (idx2 _ t 0 (by show 0 + 1 * t.val = _; omega) (by show 0 + 1 * 0 = _; omega))).trans (S.ids c t 0)
theorem ids1_at (c : Dev nD) (t : Fin 2048) : ids1 A c (ix2 t 0) = I 1 t :=
  (congrArg (A.ids c) (idx2 _ t 1 (by show 0 + 1 * t.val = _; omega) (by show 1 + 1 * 0 = _; omega))).trans (S.ids c t 1)
theorem xBlk_at (c j : Dev nD) (p : Fin 256) (d : Fin 1024) : xBlk A c j (ix2 p d) = X (rowAt j p) d :=
  (congrArg (A.x c) (idx2 _ (rowAt j p) d (by show 256 * j.val + 1 * p.val = 256 * j.val + p.val; omega)
    (by show 0 + 1 * d.val = _; omega))).trans (S.x c _ d)
theorem idBlk_at (k : Fin 2) (c j : Dev nD) (p : Fin 256) : idBlk A k c j (ix2 p 0) = I k (rowAt j p) :=
  (congrArg (A.ids c) (idx2 _ (rowAt j p) k (by show 256 * j.val + 1 * p.val = 256 * j.val + p.val; omega)
    (by show k.val + 1 * 0 = _; omega))).trans (S.ids c _ k)
theorem ewOf_at (c : Dev nD) (e : Fin 8) (d h : Fin 1024) : ewOf A c e (ix3 0 d h) = E (expertAt c e) d h :=
  (congrArg (A.ew c) (idx3 _ e d h (by show e.val + 1 * 0 = _; omega) (by show 0 + 1 * d.val = _; omega)
    (by show 0 + 1 * h.val = _; omega))).trans (S.ew c e d h)

/-! ## The gates -/

omit S in
theorem select_eq (a b : BitVec 32) (v : EReal) : Scalar.select (IntOp.cmpi .eq a b) v 0 = if b = a then v else 0 := by
  by_cases h : a = b
  · subst h; simp [Scalar.select, IntOp.cmpi]
  · have h' : ¬ b = a := fun e => h e.symm
    have hb : (a == b) = false := beq_eq_false_iff_ne.mpr h
    simp [Scalar.select, IntOp.cmpi, hb, h']

omit S in
theorem select_eq' (a b : BitVec 32) (v : EReal) : Scalar.select (IntOp.cmpi .eq a b) v 0 = if a = b then v else 0 := by
  rw [select_eq]; exact if_congr eq_comm rfl rfl

/-- The two stored columns, at a token. -/
theorem pay_at (c : Dev nD) (t : Fin 2048) :
    k0_pay5 (xAll A c) (wAll A c) (ids0 A c) (ids1 A c) (ix2 t 0) = Moe.gate X W I 0 t
      ∧ k0_pay6 (xAll A c) (wAll A c) (ids0 A c) (ids1 A c) (ix2 t 0) = Moe.gate X W I 1 t := by
  have hn : ∀ g, Ideal.exp ((∑ d, xAll A c (ix2 t d) * wAll A c (ix2 d g)) - Finset.univ.fold max (Ideal.ofBits .f32 4286578688#32)
      (fun g => ∑ d, xAll A c (ix2 t d) * wAll A c (ix2 d g))) = Moe.num X W t g := fun g => by
    simp only [xAll_at S, wAll_at S]; rfl
  have hs : ∀ w : BitVec 32, (∑ g : Fin 64, Scalar.select (IntOp.cmpi .eq (BitVec.ofNat 32 g.val) w) (Moe.num X W t g) (0 : EReal))
      = Moe.chosen w (Moe.num X W t) := fun w => by
    simp only [select_eq]; exact Moe.sum_onExpert w _
  unfold Moe.gate
  constructor
  · pointwise [k0_pay5, k0_pay4, k0_pay3, k0_pay2, k0_pay1]
    simp only [hn, hs, ids0_at S, ids1_at S]
  · pointwise [k0_pay6, k0_pay4, k0_pay3, k0_pay2, k0_pay1]
    simp only [hn, hs, ids0_at S, ids1_at S]

theorem gBlk_at (k : Fin 2) (c j : Dev nD) (p : Fin 256) : gBlk A k c j (ix2 p 0) = Moe.gate X W I k (rowAt j p) := by
  have h : gBlk A k c j (ix2 p 0) = gateBuf A c (ix2 (rowAt j p) k) :=
    congrArg (gateBuf A c) (idx2 _ (rowAt j p) k (by show 256 * j.val + 1 * p.val = 256 * j.val + p.val; omega)
      (by show k.val + 1 * 0 = _; omega))
  rw [h]
  unfold gateBuf
  match k with
  | ⟨0, _⟩ => exact (if_pos rfl).trans (pay_at S c (rowAt j p)).1
  | ⟨1, _⟩ => exact (if_neg (show ¬ (1 : ℕ) = 0 by decide)).trans (pay_at S c (rowAt j p)).2

/-! ## One device's terms, all devices' terms -/

omit S in
theorem expert_word : ∀ (c : Dev nD) (e : Fin 8),
    Scalar.addi (Scalar.muli (axisWord c) 8#32) (we e) = BitVec.ofNat 32 (expertAt c e).val := by decide +kernel

/-- Expert `g`'s term of a row. -/
abbrev term (X : Fin 2048 → Fin 1024 → EReal) (W : Fin 1024 → Fin 64 → EReal) (I : Fin 2 → Fin 2048 → BitVec 32)
    (E : Fin 64 → Fin 1024 → Fin 1024 → EReal) (t : Fin 2048) (h : Fin 1024) (g : Fin 64) : EReal :=
  (Moe.onExpert (I 0 t) g (Moe.gate X W I 0 t) + Moe.onExpert (I 1 t) g (Moe.gate X W I 1 t)) * Moe.through X E t g h

theorem addExpert_at (c j : Dev nD) (e : Fin 8) (acc : FVec Ideal S256x1024 .f32) (p : Fin 256) (h : Fin 1024) :
    addExpert (axisWord c) (we e) (xBlk A c j) (idBlk A 0 c j) (idBlk A 1 c j) (gBlk A 0 c j) (gBlk A 1 c j) acc (ewOf A c e) (ix2 p h)
      = acc (ix2 p h) + term X W I E (rowAt j p) h (expertAt c e) := by
  unfold term Moe.through Moe.onExpert
  pointwise [addExpert, expertOf, gateOf]
  simp only [expert_word, select_eq', xBlk_at S, idBlk_at S, gBlk_at S, ewOf_at S]

theorem chunk_at (c j : Dev nD) (p : Fin 256) (h : Fin 1024) :
    chunkVal A c j (ix2 p h) = ∑ e : Fin 8, term X W I E (rowAt j p) h (expertAt c e) := by
  unfold chunkVal each8v
  have h0 : (noTerms : FVec Ideal S256x1024 .f32) (ix2 p h) = 0 := by pointwise [noTerms]
  simp only [addExpert_at S, h0, Fin.sum_univ_eight, zero_add]

omit S in
/-- A sum over the devices is the device's own and its seven peers'. -/
theorem sum_devs (c : Dev nD) (f : Dev nD → EReal) : f c + ∑ r : Fin 7, f (peer c r) = ∑ d : Dev nD, f d := by
  have h : (Finset.univ : Finset (Dev nD)).erase c = Finset.univ.image (peer c) := by
    ext d
    simp only [Finset.mem_erase, Finset.mem_univ, and_true, Finset.mem_image, true_and]
    exact ⟨fun hd => exists_peer c d hd, fun ⟨r, hr⟩ => hr ▸ peer_ne c r⟩
  rw [← Finset.add_sum_erase Finset.univ f (Finset.mem_univ c), h, Finset.sum_image fun a _ b _ e => peer_inj c e]

omit S in
/-- Device by device and expert by expert is all experts. -/
theorem sum_experts (f : Fin 64 → EReal) : ∑ d : Dev nD, ∑ e : Fin 8, f (expertAt d e) = ∑ g, f g := by
  rw [← Fintype.sum_prod_type' (fun (d : Fin 8) (e : Fin 8) => f (expertAt d e))]
  exact Fintype.sum_equiv (finProdFinEquiv (m := 8) (n := 8)) _ f fun q => congrArg f (Fin.ext (by
    show 8 * q.1.val + q.2.val = q.2.val + 8 * q.1.val; omega))

theorem acc_at (j : Dev nD) (p : Fin 256) (h : Fin 1024) : accVal A j (ix2 p h) = Moe.kernelOut X W I E (rowAt j p) h := by
  have hc : accVal A j (ix2 p h) = chunkVal A j j (ix2 p h) + ∑ r : Fin 7, chunkVal A (peer j r) j (ix2 p h) := by
    rw [Fin.sum_univ_seven]
    simp only [← add_assoc]
    rfl
  rw [hc, sum_devs j (fun d => chunkVal A d j (ix2 p h))]
  simp only [chunk_at S]
  exact sum_experts (term X W I E (rowAt j p) h)

/-- The result on every device. -/
theorem out_at (c : Dev nD) (t : Fin 2048) (h : Fin 1024) : outVal A c (ix2 t h) = Moe.kernelOut X W I E t h := by
  have ho : ∀ (j : Dev nD) (i : S256x1024.Idx), outBlk A c j i = accVal A j i := fun j i => by
    unfold outBlk
    split
    · next hj => rw [hj]
    · rfl
  show outBlk A c _ _ = _
  rw [ho]
  refine (congrArg (accVal A _) (idx2 _ ⟨t.val % 256, Nat.mod_lt _ (by decide)⟩ h rfl rfl)).trans ?_
  rw [acc_at S]
  congr 1
  apply Fin.ext
  show 256 * (t.val / 256) + t.val % 256 = t.val
  omega

end Cert.KernelIdeal

end
-- ==== Proof.RefValue.lean ====
/-
  The reference's result read at a token and a column: the composition of Moe.
-/
module

public import proofs.«01_k».proof.Proof.Gen.ReferenceIdeal.Run
public import proofs.«01_k».proof.Proof.Moe
public import Idealize.ShloMosaic.Lib.Pointwise

@[expose] public section

set_option maxRecDepth 16384
set_option synthInstance.maxSize 4096

noncomputable section

namespace Cert.ReferenceIdeal

open Idealize.ShloMosaic Idealize.SL.Sem
open Gen

/-! ## The reference's steps, named -/

/-- The exponentials of the scores less each row's greatest. -/
def refNum (x : FVec Ideal S2048x1024 .f32) (w : FVec Ideal S1024x64 .f32) : FVec Ideal S2048x64 .f32 :=
  Host.exp (subf (Host.dotGeneral dot_S2048x1024_S1024x64_S2048x64_1_0_0_1_n_n none x w)
    (broadcastInDim S2048x64 ![0, 1] bcast_S2048x1_S2048x64_0_1 (broadcastInDim S2048x1 ![0] bcast_S2048_S2048x1_0
      (Host.reduce FloatOps.maximumf (Host.dotGeneral dot_S2048x1024_S1024x64_S2048x64_1_0_0_1_n_n none x w)
        (constant S_ .f32 0xFF800000#32) reducesTo_S2048x64_S2048_d1 h_S_))))

/-- A table's rows divided by their sums. -/
def refProb (p : FVec Ideal S2048x64 .f32) : FVec Ideal S2048x64 .f32 :=
  Host.divf p (broadcastInDim S2048x64 ![0, 1] bcast_S2048x1_S2048x64_0_1 (broadcastInDim S2048x1 ![0] bcast_S2048_S2048x1_0
    (Host.reduceAdd p (constant S_ .f32 0x00000000#32) reducesTo_S2048x64_S2048_d1 h_S_)))

/-- One column of the choices. -/
def col0 (ids : IVec S2048x2 32) : IVec S2048 32 :=
  shapeCast S2048 (extractStridedSlice S2048x1 ![0, 0] ids slices_S2048x2_S2048x1_0_0) shapeCasts_S2048x1_S2048
def col1 (ids : IVec S2048x2 32) : IVec S2048 32 :=
  shapeCast S2048 (extractStridedSlice S2048x1 ![0, 1] ids slices_S2048x2_S2048x1_0_1) shapeCasts_S2048x1_S2048

/-- Each row's number beside its choice. -/
def pairs (e : IVec S2048 32) : IVec S2048x2 32 :=
  concatenate S2048x2 1 [⟨S2048x1, broadcastInDim S2048x1 ![0] bcast_S2048_S2048x1_0 (iotaInDim S2048 32 0)⟩,
    ⟨S2048x1, broadcastInDim S2048x1 ![0] bcast_S2048_S2048x1_0 e⟩] concatenates_S2048x1_S2048x1_S2048x2_d1

/-- The table at each row and its choice, zero where the choice is out of range. -/
def picked (lim : Fin 2 → BitVec 32) (p : FVec Ideal S2048x64 .f32) (e : IVec S2048 32) : FVec Ideal S2048 .f32 :=
  select (Host.reduce IntOp.andi
      (andi (cmpi .sge (pairs e) (broadcastInDim S2048x2 ![] bcast_S_S2048x2 (constantI S_ 32 0#32)))
        (cmpi .sle (pairs e) (broadcastInDim S2048x2 ![0, 1] bcast_S1x2_S2048x2_0_1
          (broadcastInDim S1x2 ![1] bcast_S2_S1x2_1 (fun i => lim (S2.rowMajor i))))))
      (constantI S_ 1 1#1) reducesTo_S2048x2_S2048_d1 h_S_)
    (Host.gather gather_S2048x64_S2048x2_S2048_n_01_n_n_01_1_11 p (pairs e))
    (broadcastInDim S2048 ![] bcast_S_S2048 (constant S_ .f32 0x00000000#32))

/-- The choices as a column. -/
def asCol (e : IVec S2048 32) : IVec S2048x1 32 := broadcastInDim S2048x1 ![0] bcast_S2048_S2048x1_0 e

/-- Each row's chosen matrix, zero where the choice is out of range. -/
def rowsOf (E : FVec Ideal S64x1024x1024 .f32) (e : IVec S2048 32) : FVec Ideal S2048x1024x1024 .f32 :=
  select (broadcastInDim S2048x1024x1024 ![0] bcast_S2048_S2048x1024x1024_0
      (Host.reduce IntOp.andi
        (andi (cmpi .sge (asCol e) (broadcastInDim S2048x1 ![] bcast_S_S2048x1 (constantI S_ 32 0#32)))
          (cmpi .sle (asCol e) (broadcastInDim S2048x1 ![0, 1] bcast_S1x1_S2048x1_0_1
            (broadcastInDim S1x1 ![1] bcast_S1_S1x1_1 (constantI S1 32 63#32)))))
        (constantI S_ 1 1#1) reducesTo_S2048x1_S2048_d1 h_S_))
    (Host.gather gather_S64x1024x1024_S2048x1_S2048x1024x1024_12_0_n_n_0_1_110241024 E (asCol e))
    (broadcastInDim S2048x1024x1024 ![] bcast_S_S2048x1024x1024 (constant S_ .f32 0x00000000#32))

/-- One gate over both, along the columns, times the product with the chosen matrices. -/
def termOf (g g0 g1 : FVec Ideal S2048 .f32) (x : FVec Ideal S2048x1024 .f32) (r : FVec Ideal S2048x1024x1024 .f32) :
    FVec Ideal S2048x1024 .f32 :=
  mulf (broadcastInDim S2048x1024 ![0, 1] bcast_S2048x1_S2048x1024_0_1
      (Host.divf (broadcastInDim S2048x1 ![0] bcast_S2048_S2048x1_0 g)
        (addf (broadcastInDim S2048x1 ![0] bcast_S2048_S2048x1_0 g0) (broadcastInDim S2048x1 ![0] bcast_S2048_S2048x1_0 g1))))
    (Host.dotGeneral dot_S2048x1024_S2048x1024x1024_S2048x1024_1_1_n_2_0_0 none x r)

/-- The whole composition. -/
def whole (x : FVec Ideal S2048x1024 .f32) (w : FVec Ideal S1024x64 .f32) (ids : IVec S2048x2 32)
    (E : FVec Ideal S64x1024x1024 .f32) : FVec Ideal S2048x1024 .f32 :=
  let g0 := picked lit0 (refProb (refNum x w)) (col0 ids)
  let g1 := picked lit1 (refProb (refNum x w)) (col1 ids)
  addf (termOf g0 g0 g1 x (rowsOf E (col0 ids))) (termOf g1 g0 g1 x (rowsOf E (col1 ids)))

theorem res_eq (m : (ℓ : Loc nD τ sig) → Buf (Elt Ideal) ℓ) (c : Dev nD) :
    Value.res_main_v76 m c = whole (m ((c.tc : Thread nD τ).loc main_arg0)) (m ((c.tc : Thread nD τ).loc main_arg1))
      (m ((c.tc : Thread nD τ).loc main_arg2)) (m ((c.tc : Thread nD τ).loc main_arg3)) := by
  unfold Value.res_main_v76
  rfl

/-! ## The gathers -/

/-- Where the first gather reads its words: the result's row, and the word's place in the pair. -/
theorem pair_word (t : Fin 2048) (k : Fin 2) :
    gather_S2048x64_S2048x2_S2048_n_01_n_n_01_1_11.siIdx (ix1 t) k = ix2 t k := by
  funext b
  match b with
  | ⟨0, _⟩ =>
    unfold GatherDims.siIdx
    rw [dif_neg (by decide +revert)]
    apply Fin.ext
    have e : ∀ X : Fin 1, ((ix1 t : S2048.Idx) X).val = t.val := fun X => by
      have hX : X = 0 := Subsingleton.elim _ _
      subst hX; rfl
    exact e _
  | ⟨1, _⟩ =>
    unfold GatherDims.siIdx
    rw [dif_pos (by decide +revert)]
    rfl

/-- Where the second reads its one word: the result's row. -/
theorem matrix_word (t : Fin 2048) (d h : Fin 1024) (k : Fin 1) :
    gather_S64x1024x1024_S2048x1_S2048x1024x1024_12_0_n_n_0_1_110241024.siIdx (ix3 t d h) k = ix2 t 0 := by
  funext b
  match b with
  | ⟨0, _⟩ =>
    unfold GatherDims.siIdx
    rw [dif_neg (by decide +revert)]
    apply Fin.ext
    unfold GatherDims.siCoord
    rfl
  | ⟨1, _⟩ => exact Subsingleton.elim (α := Fin 1) _ _

/-- A gather at a row and a column named by a pair reads the table there, each clamped. -/
theorem gather_pair (p : FVec Ideal S2048x64 .f32) (i : IVec S2048x2 32) (t : Fin 2048) :
    Host.gather gather_S2048x64_S2048x2_S2048_n_01_n_n_01_1_11 p i (ix1 t)
      = p (ix2 ⟨min (i (ix2 t 0)).toInt.toNat 2047, by omega⟩ ⟨min (i (ix2 t 1)).toInt.toNat 63, by omega⟩) := by
  have hb : ∀ a : Fin 2, a ∉ gather_S2048x64_S2048x2_S2048_n_01_n_n_01_1_11.operandBatchingDims := by decide
  have hk : ∀ a : Fin 2, a ∉ gather_S2048x64_S2048x2_S2048_n_01_n_n_01_1_11.sKept := by decide
  have hm : ∀ a : Fin 2, a ∈ gather_S2048x64_S2048x2_S2048_n_01_n_n_01_1_11.startIndexMap := by decide
  unfold Host.gather
  congr 1
  funext a
  apply Fin.ext
  simp only [GatherDims.operandIdx, GatherDims.batchCoord_eq_zero _ _ _ (hb a), GatherDims.offCoord_eq_zero _ _ _ (hk a),
    Nat.add_zero, GatherDims.start, dif_pos (hm a)]
  match a with
  | ⟨0, _⟩ => exact congrArg (fun q => min (i q).toInt.toNat 2047) (pair_word t 0)
  | ⟨1, _⟩ => exact congrArg (fun q => min (i q).toInt.toNat 63) (pair_word t 1)

/-- A gather of whole matrices reads the matrix that the word names, clamped. -/
theorem gather_matrix (E : FVec Ideal S64x1024x1024 .f32) (i : IVec S2048x1 32) (t : Fin 2048) (d h : Fin 1024) :
    Host.gather gather_S64x1024x1024_S2048x1_S2048x1024x1024_12_0_n_n_0_1_110241024 E i (ix3 t d h)
      = E (ix3 ⟨min (i (ix2 t 0)).toInt.toNat 63, by omega⟩ d h) := by
  have hb : ∀ a : Fin 3,
      a ∉ gather_S64x1024x1024_S2048x1_S2048x1024x1024_12_0_n_n_0_1_110241024.operandBatchingDims := by decide
  unfold Host.gather
  congr 1
  funext a
  apply Fin.ext
  simp only [GatherDims.operandIdx, GatherDims.batchCoord_eq_zero _ _ _ (hb a), Nat.add_zero]
  match a with
  | ⟨0, _⟩ =>
    rw [GatherDims.offCoord_eq_zero _ _ _ (by decide +revert), GatherDims.start, dif_pos (by decide +revert)]
    exact congrArg (fun q => min (i q).toInt.toNat 63) (matrix_word t d h 0)
  | ⟨1, _⟩ =>
    rw [GatherDims.start, dif_neg (by decide +revert), GatherDims.offCoord, dif_pos (by decide +revert), Nat.zero_add]
    rfl
  | ⟨2, _⟩ =>
    rw [GatherDims.start, dif_neg (by decide +revert), GatherDims.offCoord, dif_pos (by decide +revert), Nat.zero_add]
    rfl

/-! ## At an index -/

theorem refNum_at (x : FVec Ideal S2048x1024 .f32) (w : FVec Ideal S1024x64 .f32) (t : Fin 2048) (g : Fin 64) :
    refNum x w (ix2 t g) = Moe.num (fun t d => x (ix2 t d)) (fun d g => w (ix2 d g)) t g := by
  unfold Moe.num Moe.top Moe.score
  pointwise [refNum]

theorem refProb_at (p : FVec Ideal S2048x64 .f32) (t : Fin 2048) (g : Fin 64) :
    refProb p (ix2 t g) = Ideal.div (p (ix2 t g)) (∑ g, p (ix2 t g)) := by
  pointwise [refProb]

/-- A word lies between zero and a limit, both comparisons signed, exactly where its value does. -/
theorem range_iff (w : BitVec 32) (n : Nat) (hn : n < 2 ^ 31) :
    IntOp.andi (IntOp.cmpi .sge w 0#32) (IntOp.cmpi .sle w (BitVec.ofNat 32 n)) = if w.toNat ≤ n then 1#1 else 0#1 := by
  have h := w.isLt
  have hs : (IntOp.andi (IntOp.cmpi .sge w 0#32) (IntOp.cmpi .sle w (BitVec.ofNat 32 n)) = 1#1) ↔ w.toNat ≤ n := by
    rw [IntOp.andi_eq_one, IntOp.cmpi_sge, IntOp.cmpi_sle, BitVec.toInt_eq_toNat_cond, BitVec.toInt_eq_toNat_cond,
      BitVec.toInt_eq_toNat_cond, BitVec.toNat_ofNat, BitVec.toNat_ofNat, Nat.mod_eq_of_lt (show n < 2 ^ 32 by omega)]
    split_ifs <;> omega
  split
  · next hw => exact hs.2 hw
  · next hw =>
    have : ∀ b : BitVec 1, b ≠ 1#1 → b = 0#1 := by decide
    exact this _ fun hb => hw (hs.1 hb)

/-- A word of an expert, read signed, is its value. -/
theorem toInt_of_lt (w : BitVec 32) (h : w.toNat < 2 ^ 31) : w.toInt.toNat = w.toNat := by
  rw [BitVec.toInt_eq_toNat_cond, if_pos (by omega)]
  rfl

theorem fold_two (f : Fin 2 → BitVec 1) : Finset.fold IntOp.andi 1#1 f Finset.univ = IntOp.andi (f 0) (IntOp.andi (f 1) 1#1) := rfl

theorem fold_one (f : Fin 1 → BitVec 1) : Finset.fold IntOp.andi 1#1 f Finset.univ = IntOp.andi (f 0) 1#1 := rfl

theorem andi_ones (b : BitVec 1) : IntOp.andi b 1#1 = b ∧ IntOp.andi 1#1 b = b := by revert b; decide

theorem pairs_at (e : IVec S2048 32) (t : Fin 2048) :
    pairs e (ix2 t 0) = BitVec.ofNat 32 t.val ∧ pairs e (ix2 t 1) = e (ix1 t) := by
  constructor
  · pointwise [pairs]
  · pointwise [pairs]

theorem picked_at (lim : Fin 2 → BitVec 32) (h0 : lim 0 = 2047#32) (h1 : lim 1 = 63#32) (p : FVec Ideal S2048x64 .f32)
    (e : IVec S2048 32) (t : Fin 2048) :
    picked lim p e (ix1 t) = Moe.chosen (e (ix1 t)) (fun g => p (ix2 t g)) := by
  have ht := t.isLt
  have hw : (BitVec.ofNat 32 t.val).toNat = t.val := by rw [BitVec.toNat_ofNat]; omega
  obtain ⟨hp0, hp1⟩ := pairs_at e t
  have hc : picked lim p e (ix1 t) = Scalar.select
      (Finset.fold IntOp.andi 1#1 (fun k : Fin 2 => IntOp.andi (IntOp.cmpi .sge (pairs e (ix2 t k)) 0#32)
        (IntOp.cmpi .sle (pairs e (ix2 t k)) (lim k))) Finset.univ)
      (Host.gather gather_S2048x64_S2048x2_S2048_n_01_n_n_01_1_11 p (pairs e) (ix1 t)) 0 := by
    generalize hq : pairs e = q
    unfold picked
    rw [hq]
    pointwise
    have hr : ∀ k : Fin 2, lim (S2.rowMajor (ix1 k)) = lim k
      | ⟨0, _⟩ => rfl
      | ⟨1, _⟩ => rfl
    simp only [hr]
  have h63 := range_iff (e (ix1 t)) 63 (by decide)
  have h2047 := range_iff (BitVec.ofNat 32 t.val) 2047 (by decide)
  rw [if_pos (by omega)] at h2047
  rw [hc, fold_two, hp0, hp1, h0, h1, h2047, h63, (andi_ones _).1, (andi_ones _).2, gather_pair]
  by_cases he : (e (ix1 t)).toNat < 64
  · rw [if_pos (by omega), Moe.chosen_of_lt he]
    show p _ = p _
    congr 1
    have e0 : min (pairs e (ix2 t 0)).toInt.toNat 2047 = t.val := by
      rw [hp0, toInt_of_lt _ (by omega)]; omega
    have e1 : min (pairs e (ix2 t 1)).toInt.toNat 63 = (e (ix1 t)).toNat := by
      rw [hp1, toInt_of_lt _ (by omega)]; omega
    simp only [e0, e1]
  · rw [if_neg (by omega), Moe.chosen_of_not_lt he]
    rfl

theorem rowsOf_at (E : FVec Ideal S64x1024x1024 .f32) (e : IVec S2048 32) (t : Fin 2048) (d h : Fin 1024) :
    rowsOf E e (ix3 t d h) = Moe.chosen (e (ix1 t)) (fun g => E (ix3 g d h)) := by
  have hc : rowsOf E e (ix3 t d h) = Scalar.select
      (Finset.fold IntOp.andi 1#1 (fun _ : Fin 1 => IntOp.andi (IntOp.cmpi .sge (e (ix1 t)) 0#32)
        (IntOp.cmpi .sle (e (ix1 t)) 63#32)) Finset.univ)
      (Host.gather gather_S64x1024x1024_S2048x1_S2048x1024x1024_12_0_n_n_0_1_110241024 E (asCol e) (ix3 t d h)) 0 := by
    generalize hq : Host.gather gather_S64x1024x1024_S2048x1_S2048x1024x1024_12_0_n_n_0_1_110241024 E (asCol e) = q
    unfold rowsOf
    rw [hq]
    pointwise [asCol]
  have hcol : asCol e (ix2 t 0) = e (ix1 t) := by pointwise [asCol]
  have h63 := range_iff (e (ix1 t)) 63 (by decide)
  rw [hc, fold_one, h63, (andi_ones _).1, gather_matrix]
  by_cases he : (e (ix1 t)).toNat < 64
  · rw [if_pos (by omega), Moe.chosen_of_lt he]
    show E _ = E _
    congr 1
    have e1 : min (asCol e (ix2 t 0)).toInt.toNat 63 = (e (ix1 t)).toNat := by
      rw [hcol, toInt_of_lt _ (by omega)]; omega
    simp only [e1]
  · rw [if_neg (by omega), Moe.chosen_of_not_lt he]
    rfl

theorem termOf_at (g g0 g1 : FVec Ideal S2048 .f32) (x : FVec Ideal S2048x1024 .f32) (r : FVec Ideal S2048x1024x1024 .f32)
    (t : Fin 2048) (h : Fin 1024) :
    termOf g g0 g1 x r (ix2 t h)
      = Ideal.div (g (ix1 t)) (g0 (ix1 t) + g1 (ix1 t)) * ∑ d, x (ix2 t d) * r (ix3 t d h) := by
  pointwise [termOf]

theorem col_at (ids : IVec S2048x2 32) (t : Fin 2048) : col0 ids (ix1 t) = ids (ix2 t 0) ∧ col1 ids (ix1 t) = ids (ix2 t 1) := by
  constructor
  · pointwise [col0]
  · pointwise [col1]

/-- The reference's result at a token and a column. -/
theorem whole_at (x : FVec Ideal S2048x1024 .f32) (w : FVec Ideal S1024x64 .f32) (ids : IVec S2048x2 32)
    (E : FVec Ideal S64x1024x1024 .f32) (t : Fin 2048) (h : Fin 1024) :
    whole x w ids E (ix2 t h)
      = Moe.refOut (fun t d => x (ix2 t d)) (fun d g => w (ix2 d g)) (fun k t => ids (ix2 t k)) (fun g d h => E (ix3 g d h)) t h := by
  have hp : ∀ t : Fin 2048, (fun g => refProb (refNum x w) (ix2 t g))
      = Moe.prob (fun t d => x (ix2 t d)) (fun d g => w (ix2 d g)) t := fun t => by
    funext g
    rw [refProb_at]
    unfold Moe.prob Moe.total
    rw [refNum_at]
    exact congrArg _ (Finset.sum_congr rfl fun g _ => refNum_at x w t g)
  show termOf _ _ _ _ _ (ix2 t h) + termOf _ _ _ _ _ (ix2 t h) = _
  rw [termOf_at, termOf_at, picked_at _ rfl rfl, picked_at _ rfl rfl, hp]
  simp only [rowsOf_at]
  rw [(col_at ids t).1, (col_at ids t).2]
  rfl

end Cert.ReferenceIdeal

end
-- ==== Proof.Finite.lean ====
/-
  What the precondition says: every token entry and every router weight is finite.
-/
module

public import proofs.«01_k».proof.Defs
public import proofs.«01_k».proof.Proof.Moe
public import Idealize.ShloMosaic.Lib.ReduceAll
public import Idealize.ShloMosaic.Lib.Pointwise.Select

@[expose] public section

noncomputable section

namespace Cert.Pre_finite_router_KernelIdeal

open Idealize.ShloMosaic

instance facts : Facts where
  bcast_S_S2048x1024 := by decide
  reducesTo_S2048x1024_S_d0_1 := by decide
  h_S_ := by decide
  bcast_S_S1024x64 := by decide
  reducesTo_S1024x64_S_d0_1 := by decide

/-- The greatest word is plus infinity. -/
theorem greatest_eq : Ideal.ofBits .f32 0x7F800000#32 = (⊤ : EReal) := by
  simp [Ideal.ofBits, Ideal.ieee]

/-- A value whose size is below plus infinity is finite. -/
theorem finite_of_lt (v : EReal) (h : Ideal.cmp .olt (max v (-v)) (Ideal.ofBits .f32 0x7F800000#32) = 1#1) : Moe.Fin' v := by
  have h' : max v (-v) < ⊤ := by rw [← greatest_eq]; exact (Ideal.cmp_olt_eq_one _ _).mp h
  constructor
  · rintro rfl; exact absurd (lt_of_le_of_lt (le_max_left _ _) h') (lt_irrefl _)
  · rintro rfl
    rw [EReal.neg_bot] at h'
    exact absurd (lt_of_le_of_lt (le_max_right _ _) h') (lt_irrefl _)

theorem finite_of_fn (x : FVec Ideal S2048x1024 .f32) (w : FVec Ideal S1024x64 .f32) (ids : IVec S2048x2 32)
    (e : FVec Ideal S8x1024x1024 .f32) (h : fn x w ids e = fun _ => 1#1) : (∀ i, Moe.Fin' (x i)) ∧ ∀ i, Moe.Fin' (w i) := by
  haveI : Subsingleton S_.Idx := ⟨fun a b => funext fun k => k.elim0⟩
  obtain ⟨hx, hw⟩ := IntOp.andi_eq_one.mp (congrFun h fun k => k.elim0)
  exact ⟨fun i => finite_of_lt _ (Host.reduce_andi_all _ _ _ _ _ hx i), fun i => finite_of_lt _ (Host.reduce_andi_all _ _ _ _ _ hw i)⟩

end Cert.Pre_finite_router_KernelIdeal

namespace Cert.Pre_finite_router_ReferenceIdeal

instance facts : Facts where
  bcast_S_S2048x1024 := by decide
  reducesTo_S2048x1024_S_d0_1 := by decide
  h_S_ := by decide
  bcast_S_S1024x64 := by decide
  reducesTo_S1024x64_S_d0_1 := by decide

end Cert.Pre_finite_router_ReferenceIdeal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Final
public import proofs.«01_k».proof.Proof.KVal
public import proofs.«01_k».proof.Proof.RefValue
public import proofs.«01_k».proof.Proof.Finite
public import Idealize.ShloMosaic.Adequacy
public import Idealize.ShloMosaic.Lib.Claim
public import Idealize.ShloMosaic.Init

@[expose] public section

noncomputable section

namespace Cert.Proof

open Idealize.ShloMosaic Idealize.SL.Sem Cert.Kernel

/-- The kernel as it is runs the same text as the kernel read over the extended reals. -/
theorem frame_kernel : Cert.quiescent_Kernel := fun m ρ _ => by
  have h := Cert.KernelIdeal.run_frame (F := Bits) m ρ
  revert h
  generalize hp : (θ_run (Cert.KernelIdeal.defs (F := Bits)) _ _ _) = p
  intro h
  refine Eq.mp ?_ h
  rw [← hp]
  sl_kernel_rfl

theorem frame_ideal : Cert.quiescent_KernelIdeal := fun m ρ _ => Cert.KernelIdeal.run_frame (F := Ideal) m ρ

theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Idealize.ShloMosaic.Ideal) m ρ)

/-- A result known at every token and column. -/
theorem ext2 (f g : (⟨2, ![2048, 1024]⟩ : Shape).Idx → EReal) (h : ∀ t k, f (ix2 t k) = g (ix2 t k)) : f = g := by
  funext i
  have hi : i = ix2 (i 0) (i 1) := Cert.KernelIdeal.idx2 i (i 0) (i 1) rfl rfl
  rw [hi]; exact h _ _

theorem result_eq : Cert.algebraic_KernelIdeal_ReferenceIdeal_pre_finite_router_KernelIdeal := by
  intro m g m' g' hpre harg
  obtain ⟨hx, hw⟩ := Cert.Pre_finite_router_KernelIdeal.finite_of_fn _ _ _ _ (hpre 0)
  have S : Cert.KernelIdeal.Same (Cert.KernelIdeal.inp m g)
      (fun t d => m' (((0 : Dev Cert.ReferenceIdeal.nD).tc : Thread Cert.ReferenceIdeal.nD Cert.ReferenceIdeal.τ).loc Cert.ReferenceIdeal.main_arg0) (ix2 t d))
      (fun d g => m' (((0 : Dev Cert.ReferenceIdeal.nD).tc : Thread Cert.ReferenceIdeal.nD Cert.ReferenceIdeal.τ).loc Cert.ReferenceIdeal.main_arg1) (ix2 d g))
      (fun k t => m' (((0 : Dev Cert.ReferenceIdeal.nD).tc : Thread Cert.ReferenceIdeal.nD Cert.ReferenceIdeal.τ).loc Cert.ReferenceIdeal.main_arg2) (ix2 t k))
      (fun g d h => m' (((0 : Dev Cert.ReferenceIdeal.nD).tc : Thread Cert.ReferenceIdeal.nD Cert.ReferenceIdeal.τ).loc Cert.ReferenceIdeal.main_arg3) (ix3 g d h)) :=
    { x := fun c t d => by rw [Cert.KernelIdeal.inp_x]; exact congrFun (harg c).1 _
      w := fun c d g => by rw [Cert.KernelIdeal.inp_w]; exact congrFun (harg c).2.1 _
      ids := fun c t k => by rw [Cert.KernelIdeal.inp_ids]; exact congrFun (harg c).2.2.1 _
      ew := fun c e d h => by
        rw [Cert.KernelIdeal.inp_ew]
        refine (congrFun (harg c).2.2.2 _).trans ?_
        exact congrArg (m' (((0 : Dev Cert.ReferenceIdeal.nD).tc : Thread Cert.ReferenceIdeal.nD Cert.ReferenceIdeal.τ).loc Cert.ReferenceIdeal.main_arg3))
          (Cert.KernelIdeal.idx3 _ (Cert.KernelIdeal.expertAt c e) d h (by show c.val * 8 + e.val = 8 * c.val + e.val; omega) rfl rfl) }
  rw [(harg 0).1] at hx
  rw [(harg 0).2.1] at hw
  refine ⟨Cert.ReferenceIdeal.Value.res_main_v76 m' 0, ?_, ?_⟩
  · refine (θ_run Cert.KernelIdeal.defs _ _).mono (fun r h c => ⟨(h.1 c).1.trans ?_, (h.1 c).2⟩)
      (Cert.KernelIdeal.run_arrays (F := Idealize.ShloMosaic.Ideal) m g)
    refine ext2 _ _ fun t k => ?_
    rw [Cert.KernelIdeal.out_at S c t k, Cert.ReferenceIdeal.res_eq, Cert.ReferenceIdeal.whole_at]
    exact Cert.Moe.kernelOut_eq _ _ (fun t d => hx _) (fun d g => hw _) t k
  · exact (θ_run Cert.ReferenceIdeal.defs _ _).mono (fun r h => h 0)
      (Cert.ReferenceIdeal.Value.run (F := Idealize.ShloMosaic.Ideal) m' g')

theorem claim : Cert.Claim :=
  ⟨Cert.Kernel.Gen.facts, Cert.KernelIdeal.Gen.facts, Cert.ReferenceIdeal.Gen.facts, Cert.Pre_finite_router_KernelIdeal.facts,
    Cert.Pre_finite_router_ReferenceIdeal.facts, frame_kernel, frame_ideal, fun m ρ _ => frame_ideal m ρ trivial, frame_reference,
    fun m ρ _ => frame_reference m ρ trivial, trivial, result_eq⟩

end Cert.Proof

end
